-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S2x1024x16 : Shape := ⟨3, ![2, 1024, 16]⟩
abbrev S2x16 : Shape := ⟨2, ![2, 16]⟩
abbrev S2x16x1024x1024 : Shape := ⟨4, ![2, 16, 1024, 1024]⟩
abbrev S2x16x1024 : Shape := ⟨3, ![2, 16, 1024]⟩
abbrev S2x1024x1 : Shape := ⟨3, ![2, 1024, 1]⟩
abbrev S2x1 : Shape := ⟨2, ![2, 1]⟩
abbrev S2x1x16 : Shape := ⟨3, ![2, 1, 16]⟩
abbrev S2x16x1x1024 : Shape := ⟨4, ![2, 16, 1, 1024]⟩
abbrev S2x1x1 : Shape := ⟨3, ![2, 1, 1]⟩
abbrev S32x1 : Shape := ⟨2, ![32, 1]⟩
abbrev S32 : Shape := ⟨1, ![32]⟩
abbrev S1x1024x16 : Shape := ⟨3, ![1, 1024, 16]⟩
abbrev S1x1x16 : Shape := ⟨3, ![1, 1, 16]⟩
abbrev S1x1x1024x256 : Shape := ⟨4, ![1, 1, 1024, 256]⟩
abbrev S1x1x1x1024 : Shape := ⟨4, ![1, 1, 1, 1024]⟩
abbrev S1x1x256x1024 : Shape := ⟨4, ![1, 1, 256, 1024]⟩
abbrev S1x1024x1 : Shape := ⟨3, ![1, 1024, 1]⟩
abbrev S1x1x1 : Shape := ⟨3, ![1, 1, 1]⟩
abbrev S32x16 : Shape := ⟨2, ![32, 16]⟩
abbrev S1024x16 : Shape := ⟨2, ![1024, 16]⟩
abbrev S16 : Shape := ⟨1, ![16]⟩
abbrev S1x16 : Shape := ⟨2, ![1, 16]⟩
abbrev S1024 : Shape := ⟨1, ![1024]⟩
abbrev S1024x256 : Shape := ⟨2, ![1024, 256]⟩
abbrev S32x256 : Shape := ⟨2, ![32, 256]⟩
abbrev S256 : Shape := ⟨1, ![256]⟩
abbrev S1x256 : Shape := ⟨2, ![1, 256]⟩
abbrev S256x1024 : Shape := ⟨2, ![256, 1024]⟩
abbrev S1x1024 : Shape := ⟨2, ![1, 1024]⟩

abbrev nBuf : Space → Nat
  | .hbm => 20
  | .vmem => 38
  | .smem => 0
  | _ => 0

abbrev bufTy : (tb : Table) → Fin (tcTables nBuf tb) → BufTy
  | .hbm, ⟨0, _⟩ => ⟨S32x1024, .f32⟩
  | .hbm, ⟨1, _⟩ => ⟨S2x1024x16, .f32⟩
  | .hbm, ⟨2, _⟩ => ⟨S2x16, .f32⟩
  | .hbm, ⟨3, _⟩ => ⟨S2x16x1024x1024, .f32⟩
  | .hbm, ⟨4, _⟩ => ⟨S2x16x1024, .f32⟩
  | .hbm, ⟨5, _⟩ => ⟨S2x16x1024x1024, .f32⟩
  | .hbm, ⟨6, _⟩ => ⟨S2x16x1024, .f32⟩
  | .hbm, ⟨7, _⟩ => ⟨S2x1024x1, .f32⟩
  | .hbm, ⟨8, _⟩ => ⟨S2x1, .f32⟩
  | .hbm, ⟨9, _⟩ => ⟨S2x1x16, .f32⟩
  | .hbm, ⟨10, _⟩ => ⟨S2x16x1x1024, .f32⟩
  | .hbm, ⟨11, _⟩ => ⟨S2x16x1x1024, .f32⟩
  | .hbm, ⟨12, _⟩ => ⟨S2x1x1, .f32⟩
  | .hbm, ⟨13, _⟩ => ⟨S32x1024, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32, .f32⟩
  | .hbm, ⟨18, _⟩ => ⟨S32, .f32⟩
  | .hbm, ⟨19, _⟩ => ⟨S32, .f32⟩
  | .local _ .vmem, ⟨0, _⟩ => ⟨S32x1024, .f32⟩
  | .local _ .vmem, ⟨1, _⟩ => ⟨S1x1024x16, .f32⟩
  | .local _ .vmem, ⟨2, _⟩ => ⟨S1x1024x16, .f32⟩
  | .local _ .vmem, ⟨3, _⟩ => ⟨S1x1x16, .f32⟩
  | .local _ .vmem, ⟨4, _⟩ => ⟨S1x1x16, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x1024x256, .f32⟩
  | .local _ .vmem, ⟨9, _⟩ => ⟨S1x1x1024x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x1024x256, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x256x1024, .f32⟩
  | .local _ .vmem, ⟨16, _⟩ => ⟨S1x1x256x1024, .f32⟩
  | .local _ .vmem, ⟨17, _⟩ => ⟨S1x1x256x1024, .f32⟩
  | .local _ .vmem, ⟨18, _⟩ => ⟨S1x1x256x1024, .f32⟩
  | .local _ .vmem, ⟨19, _⟩ => ⟨S1x1x256x1024, .f32⟩
  | .local _ .vmem, ⟨20, _⟩ => ⟨S1x1x256x1024, .f32⟩
  | .local _ .vmem, ⟨21, _⟩ => ⟨S1x1x256x1024, .f32⟩
  | .local _ .vmem, ⟨22, _⟩ => ⟨S1x1x256x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1024x1, .f32⟩
  | .local _ .vmem, ⟨26, _⟩ => ⟨S1x1024x1, .f32⟩
  | .local _ .vmem, ⟨27, _⟩ => ⟨S1x1x1, .f32⟩
  | .local _ .vmem, ⟨28, _⟩ => ⟨S1x1x1, .f32⟩
  | .local _ .vmem, ⟨29, _⟩ => ⟨S32x1024, .f32⟩
  | .local _ .vmem, ⟨30, _⟩ => ⟨S32x1, .f32⟩
  | .local _ .vmem, ⟨31, _⟩ => ⟨S32x1, .f32⟩
  | .local _ .vmem, ⟨32, _⟩ => ⟨S32x1, .f32⟩
  | .local _ .vmem, ⟨33, _⟩ => ⟨S32x1024, .f32⟩
  | .local _ .vmem, ⟨34, _⟩ => ⟨S32x1024, .f32⟩
  | .local _ .vmem, ⟨35, _⟩ => ⟨S32x16, .f32⟩
  | .local _ .vmem, ⟨36, _⟩ => ⟨S32x1, .f32⟩
  | .local _ .vmem, ⟨37, _⟩ => ⟨S32x1, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0_0 : Ref sig .tc := ⟨.hbm, 13, rfl⟩
abbrev main_call0_v4_1 : Ref sig .tc := ⟨.hbm, 14, rfl⟩
abbrev main_call0_v4_2 : Ref sig .tc := ⟨.hbm, 15, rfl⟩
abbrev main_call0_v4_3 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem17_0 : DmaSem sig := 31
abbrev cc0_sem18_0 : DmaSem sig := 32

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c15_i32 : BitVec 32 := 15#32
  let v84 : BitVec 1 := Scalar.cmpi .eq arg1 c15_i32
  let v85 : BitVec 32 := Scalar.extui v84
  let c0_i32_64 : BitVec 32 := 0#32
  let v86 : BitVec 1 := Scalar.cmpi .ne v85 c0_i32_64
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, arg1.toNat, c0_i32.toNat, c2_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, arg1.toNat, c0_i32.toNat, c3_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, arg1.toNat, c1_i32.toNat, c0_i32.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, arg1.toNat, c2_i32.toNat, c0_i32.toNat]

def cc0_transform_11 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, arg1.toNat, c3_i32.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S32x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S32x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S32x1024 : Shape := ⟨2, ![32, 1024]⟩
abbrev S2x1024x16 : Shape := ⟨3, ![2, 1024, 16]⟩
abbrev S2x16 : Shape := ⟨2, ![2, 16]⟩
abbrev S2x16x1024x1024 : Shape := ⟨4, ![2, 16, 1024, 1024]⟩
abbrev S2x16x1024 : Shape := ⟨3, ![2, 16, 1024]⟩
abbrev S2x1024x1 : Shape := ⟨3, ![2, 1024, 1]⟩
abbrev S2x1 : Shape := ⟨2, ![2, 1]⟩
abbrev S_ : Shape := ⟨0, ![]⟩
abbrev S32 : Shape := ⟨1, ![32]⟩
abbrev S1x1024x16 : Shape := ⟨3, ![1, 1024, 16]⟩
abbrev S1024x16 : Shape := ⟨2, ![1024, 16]⟩
abbrev S1x16 : Shape := ⟨2, ![1, 16]⟩
abbrev S16 : Shape := ⟨1, ![16]⟩
abbrev S1x16x1024x1024 : Shape := ⟨4, ![1, 16, 1024, 1024]⟩
abbrev S16x1024x1024 : Shape := ⟨3, ![16, 1024, 1024]⟩
abbrev S1x16x1024 : Shape := ⟨3, ![1, 16, 1024]⟩
abbrev S16x1024 : Shape := ⟨2, ![16, 1024]⟩
abbrev S32x16 : Shape := ⟨2, ![32, 16]⟩
abbrev S32x1 : Shape := ⟨2, ![32, 1]⟩
abbrev S32x16x1024 : Shape := ⟨3, ![32, 16, 1024]⟩
abbrev S16x1024x32 : Shape := ⟨3, ![16, 1024, 32]⟩
abbrev S1x1024x1 : Shape := ⟨3, ![1, 1024, 1]⟩
abbrev S1024x1 : Shape := ⟨2, ![1024, 1]⟩
abbrev S1x1 : Shape := ⟨2, ![1, 1]⟩
abbrev S1 : Shape := ⟨1, ![1]⟩

abbrev nBuf : Space → Nat
  | .hbm => 235
  | .vmem => 0
  | .smem => 0
  | _ => 0

abbrev hbmTy0_0 (i : Nat) : BufTy := match i % 128 with
  | 0 => ⟨S32x1024, .f32⟩
  | 1 => ⟨S2x1024x16, .f32⟩
  | 2 => ⟨S2x16, .f32⟩
  | 3 => ⟨S2x16x1024x1024, .f32⟩
  | 4 => ⟨S2x16x1024, .f32⟩
  | 5 => ⟨S2x16x1024x1024, .f32⟩
  | 6 => ⟨S2x16x1024, .f32⟩
  | 7 => ⟨S2x1024x1, .f32⟩
  | 8 => ⟨S2x1, .f32⟩
  | 9 => ⟨S_, .f32⟩
  | 10 => ⟨S32, .f32⟩
  | 11 => ⟨S_, .f32⟩
  | 12 => ⟨S32, .f32⟩
  | 13 => ⟨S_, .f32⟩
  | 14 => ⟨S32, .f32⟩
  | 15 => ⟨S_, .f32⟩
  | 16 => ⟨S32x1024, .f32⟩
  | 17 => ⟨S_, .i1⟩
  | 18 => ⟨S32, .i1⟩
  | 19 => ⟨S_, .f32⟩
  | 20 => ⟨S32, .f32⟩
  | 21 => ⟨S1x1024x16, .f32⟩
  | 22 => ⟨S1024x16, .f32⟩
  | 23 => ⟨S1x16, .f32⟩
  | 24 => ⟨S16, .f32⟩
  | 25 => ⟨S1x16x1024x1024, .f32⟩
  | 26 => ⟨S16x1024x1024, .f32⟩
  | 27 => ⟨S1x16x1024, .f32⟩
  | 28 => ⟨S16x1024, .f32⟩
  | 29 => ⟨S1x16x1024x1024, .f32⟩
  | 30 => ⟨S16x1024x1024, .f32⟩
  | 31 => ⟨S1x16x1024, .f32⟩
  | 32 => ⟨S16x1024, .f32⟩
  | 33 => ⟨S32x16, .f32⟩
  | 34 => ⟨S1x16, .f32⟩
  | 35 => ⟨S32x16, .f32⟩
  | 36 => ⟨S32x16, .f32⟩
  | 37 => ⟨S_, .f32⟩
  | 38 => ⟨S32x16, .f32⟩
  | 39 => ⟨S32x16, .f32⟩
  | 40 => ⟨S_, .f32⟩
  | 41 => ⟨S32, .f32⟩
  | 42 => ⟨S_, .f32⟩
  | 43 => ⟨S32, .f32⟩
  | 44 => ⟨S32, .f32⟩
  | 45 => ⟨S32x1, .f32⟩
  | 46 => ⟨S32x16, .f32⟩
  | 47 => ⟨S32x16, .f32⟩
  | 48 => ⟨S32x16, .f32⟩
  | 49 => ⟨S_, .f32⟩
  | 50 => ⟨S32, .f32⟩
  | 51 => ⟨S32x1, .f32⟩
  | 52 => ⟨S32x16, .f32⟩
  | 53 => ⟨S32x16, .f32⟩
  | 54 => ⟨S32x16x1024, .f32⟩
  | 55 => ⟨S1x16x1024, .f32⟩
  | 56 => ⟨S32x16x1024, .f32⟩
  | 57 => ⟨S32x16x1024, .f32⟩
  | 58 => ⟨S_, .f32⟩
  | 59 => ⟨S32x16x1024, .f32⟩
  | 60 => ⟨S32x16x1024, .f32⟩
  | 61 => ⟨S16x1024x32, .f32⟩
  | 62 => ⟨S32x16x1024, .f32⟩
  | 63 => ⟨S1x16x1024, .f32⟩
  | 64 => ⟨S32x16x1024, .f32⟩
  | 65 => ⟨S32x16x1024, .f32⟩
  | 66 => ⟨S32x1024, .f32⟩
  | 67 => ⟨S1x1024x1, .f32⟩
  | 68 => ⟨S1024x1, .f32⟩
  | 69 => ⟨S32x1, .f32⟩
  | 70 => ⟨S1x1, .f32⟩
  | 71 => ⟨S1, .f32⟩
  | 72 => ⟨S1x1, .f32⟩
  | 73 => ⟨S32x1, .f32⟩
  | 74 => ⟨S32x1, .f32⟩
  | 75 => ⟨S32x1, .f32⟩
  | 76 => ⟨S32x1, .f32⟩
  | 77 => ⟨S_, .f32⟩
  | 78 => ⟨S32x1, .f32⟩
  | 79 => ⟨S32x1, .f32⟩
  | 80 => ⟨S_, .f32⟩
  | 81 => ⟨S32x1, .f32⟩
  | 82 => ⟨S32x1, .f32⟩
  | 83 => ⟨S32, .f32⟩
  | 84 => ⟨S32, .f32⟩
  | 85 => ⟨S32, .f32⟩
  | 86 => ⟨S32, .f32⟩
  | 87 => ⟨S_, .f32⟩
  | 88 => ⟨S32, .f32⟩
  | 89 => ⟨S32, .i1⟩
  | 90 => ⟨S32, .f32⟩
  | 91 => ⟨S32, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32, .f32⟩
  | 99 => ⟨S32, .f32⟩
  | 100 => ⟨S_, .f32⟩
  | 101 => ⟨S32, .f32⟩
  | 102 => ⟨S32, .f32⟩
  | 103 => ⟨S32, .f32⟩
  | 104 => ⟨S32, .f32⟩
  | 105 => ⟨S32, .f32⟩
  | 106 => ⟨S32, .f32⟩
  | 107 => ⟨S32x1, .f32⟩
  | 108 => ⟨S_, .f32⟩
  | 109 => ⟨S32x1, .f32⟩
  | 110 => ⟨S32x1, .f32⟩
  | 111 => ⟨S32x1024, .f32⟩
  | 112 => ⟨S32x1024, .f32⟩
  | 113 => ⟨S32x1, .f32⟩
  | 114 => ⟨S32x1024, .f32⟩
  | 115 => ⟨S32x1024, .f32⟩
  | 116 => ⟨S32x1024, .f32⟩
  | 117 => ⟨S32, .f32⟩
  | 118 => ⟨S32, .f32⟩
  | 119 => ⟨S_, .f32⟩
  | 120 => ⟨S32, .f32⟩
  | 121 => ⟨S32, .i1⟩
  | 122 => ⟨S32, .f32⟩
  | 123 => ⟨S1x1024x16, .f32⟩
  | 124 => ⟨S1024x16, .f32⟩
  | 125 => ⟨S1x16, .f32⟩
  | 126 => ⟨S16, .f32⟩
  | 127 => ⟨S1x16x1024x1024, .f32⟩
  | _ => ⟨S32x1024, .f32⟩

abbrev hbmTy0_1 (i : Nat) : BufTy := match i % 128 with
  | 0 => ⟨S16x1024x1024, .f32⟩
  | 1 => ⟨S1x16x1024, .f32⟩
  | 2 => ⟨S16x1024, .f32⟩
  | 3 => ⟨S1x16x1024x1024, .f32⟩
  | 4 => ⟨S16x1024x1024, .f32⟩
  | 5 => ⟨S1x16x1024, .f32⟩
  | 6 => ⟨S16x1024, .f32⟩
  | 7 => ⟨S32x16, .f32⟩
  | 8 => ⟨S1x16, .f32⟩
  | 9 => ⟨S32x16, .f32⟩
  | 10 => ⟨S32x16, .f32⟩
  | 11 => ⟨S_, .f32⟩
  | 12 => ⟨S32x16, .f32⟩
  | 13 => ⟨S32x16, .f32⟩
  | 14 => ⟨S_, .f32⟩
  | 15 => ⟨S32, .f32⟩
  | 16 => ⟨S_, .f32⟩
  | 17 => ⟨S32, .f32⟩
  | 18 => ⟨S32, .f32⟩
  | 19 => ⟨S32x1, .f32⟩
  | 20 => ⟨S32x16, .f32⟩
  | 21 => ⟨S32x16, .f32⟩
  | 22 => ⟨S32x16, .f32⟩
  | 23 => ⟨S_, .f32⟩
  | 24 => ⟨S32, .f32⟩
  | 25 => ⟨S32x1, .f32⟩
  | 26 => ⟨S32x16, .f32⟩
  | 27 => ⟨S32x16, .f32⟩
  | 28 => ⟨S32x16x1024, .f32⟩
  | 29 => ⟨S1x16x1024, .f32⟩
  | 30 => ⟨S32x16x1024, .f32⟩
  | 31 => ⟨S32x16x1024, .f32⟩
  | 32 => ⟨S_, .f32⟩
  | 33 => ⟨S32x16x1024, .f32⟩
  | 34 => ⟨S32x16x1024, .f32⟩
  | 35 => ⟨S16x1024x32, .f32⟩
  | 36 => ⟨S32x16x1024, .f32⟩
  | 37 => ⟨S1x16x1024, .f32⟩
  | 38 => ⟨S32x16x1024, .f32⟩
  | 39 => ⟨S32x16x1024, .f32⟩
  | 40 => ⟨S32x1024, .f32⟩
  | 41 => ⟨S1x1024x1, .f32⟩
  | 42 => ⟨S1024x1, .f32⟩
  | 43 => ⟨S32x1, .f32⟩
  | 44 => ⟨S1x1, .f32⟩
  | 45 => ⟨S1, .f32⟩
  | 46 => ⟨S1x1, .f32⟩
  | 47 => ⟨S32x1, .f32⟩
  | 48 => ⟨S32x1, .f32⟩
  | 49 => ⟨S32x1, .f32⟩
  | 50 => ⟨S32x1, .f32⟩
  | 51 => ⟨S_, .f32⟩
  | 52 => ⟨S32x1, .f32⟩
  | 53 => ⟨S32x1, .f32⟩
  | 54 => ⟨S_, .f32⟩
  | 55 => ⟨S32x1, .f32⟩
  | 56 => ⟨S32x1, .f32⟩
  | 57 => ⟨S32, .f32⟩
  | 58 => ⟨S32, .f32⟩
  | 59 => ⟨S32, .f32⟩
  | 60 => ⟨S32, .f32⟩
  | 61 => ⟨S_, .f32⟩
  | 62 => ⟨S32, .f32⟩
  | 63 => ⟨S32, .i1⟩
  | 64 => ⟨S32, .f32⟩
  | 65 => ⟨S32, .f32⟩
  | 66 => ⟨S32, .f32⟩
  | 67 => ⟨S_, .f32⟩
  | 68 => ⟨S32, .f32⟩
  | 69 => ⟨S32, .f32⟩
  | 70 => ⟨S32, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S32, .f32⟩
  | 79 => ⟨S32, .f32⟩
  | 80 => ⟨S32, .f32⟩
  | 81 => ⟨S32x1, .f32⟩
  | 82 => ⟨S_, .f32⟩
  | 83 => ⟨S32x1, .f32⟩
  | 84 => ⟨S32x1, .f32⟩
  | 85 => ⟨S32x1024, .f32⟩
  | 86 => ⟨S32x1024, .f32⟩
  | 87 => ⟨S32x1, .f32⟩
  | 88 => ⟨S32x1024, .f32⟩
  | 89 => ⟨S32x1024, .f32⟩
  | 90 => ⟨S32x1024, .f32⟩
  | 91 => ⟨S32, .f32⟩
  | 92 => ⟨S32, .f32⟩
  | 93 => ⟨S_, .f32⟩
  | 94 => ⟨S32, .f32⟩
  | 95 => ⟨S32, .i1⟩
  | 96 => ⟨S32, .f32⟩
  | 97 => ⟨S32x1, .f32⟩
  | 98 => ⟨S_, .f32⟩
  | 99 => ⟨S32x1, .f32⟩
  | 100 => ⟨S32x1, .f32⟩
  | 101 => ⟨S32x1024, .f32⟩
  | 102 => ⟨S32x1024, .f32⟩
  | 103 => ⟨S32x1, .f32⟩
  | 104 => ⟨S32x1024, .f32⟩
  | 105 => ⟨S32x1024, .f32⟩
  | 106 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_14 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_15 : Ref sig .tc := ⟨.hbm, 139, rfl⟩
abbrev main_v111 : Ref sig .tc := ⟨.hbm, 140, rfl⟩
abbrev main_v112 : Ref sig .tc := ⟨.hbm, 141, rfl⟩
abbrev main_cst_16 : Ref sig .tc := ⟨.hbm, 142, rfl⟩
abbrev main_v113 : Ref sig .tc := ⟨.hbm, 143, rfl⟩
abbrev main_cst_17 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_18 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_call1_cst : Ref sig .tc := ⟨.hbm, 160, rfl⟩
abbrev main_call1_v0 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_19 : Ref sig .tc := ⟨.hbm, 179, rfl⟩
abbrev main_v145 : Ref sig .tc := ⟨.hbm, 180, rfl⟩
abbrev main_v146 : Ref sig .tc := ⟨.hbm, 181, rfl⟩
abbrev main_cst_20 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_21 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_22 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_23 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_24 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_25 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_26 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩

abbrev nD : Nat := 1
abbrev τ : Topo := Topo.v7x

variable {F : FTy → Type} [FloatOps F]
-- ==== Proof.Spec.lean ====
/-
  The mathematics of the problem, for one sample at a time and over the extended reals.

  A layer takes a sample's current row `x` of 1024 entries. A softmax over sixteen experts weighs sixteen two-layer
  ReLU networks (`mix`), and a sigmoid of a linear form gives a halting probability (`prob`). The state of a sample
  (`State`) is what adaptive computation carries between layers: the accumulated halting probability, whether the
  sample is still active, the mixed output, and the three counters. Two layers run one after the other.
-/
module

public import Idealize.ShloMosaic.PureOps.Ideal.Laws

@[expose] public section

noncomputable section

namespace Cert.Spec

open Idealize.ShloMosaic

/-- The halting threshold: the binary32 number nearest to 0.8. -/
def thr : EReal := Ideal.ofBits .f32 0x3F4CCCCD#32

/-- The parameters of one layer. -/
structure Layer where
  wg : Fin 1024 → Fin 16 → EReal
  bg : Fin 16 → EReal
  w1 : Fin 16 → Fin 1024 → Fin 1024 → EReal
  b1 : Fin 16 → Fin 1024 → EReal
  w2 : Fin 16 → Fin 1024 → Fin 1024 → EReal
  b2 : Fin 16 → Fin 1024 → EReal
  wh : Fin 1024 → EReal
  bh : EReal

/-- The gate's logit for expert `e`. -/
def logit (L : Layer) (x : Fin 1024 → EReal) (e : Fin 16) : EReal := (∑ k, x k * L.wg k e) + L.bg e

/-- The greatest of sixteen logits. -/
def top (l : Fin 16 → EReal) : EReal := Finset.univ.fold max ⊥ l

/-- The softmax of sixteen logits. -/
def softmax (l : Fin 16 → EReal) (e : Fin 16) : EReal :=
  Ideal.div (Ideal.exp (l e - top l)) (∑ k, Ideal.exp (l k - top l))

/-- The weight of expert `e`. -/
def gate (L : Layer) (x : Fin 1024 → EReal) (e : Fin 16) : EReal := softmax (logit L x) e

/-- Hidden unit `h` of expert `e`. -/
def hidden (L : Layer) (x : Fin 1024 → EReal) (e : Fin 16) (h : Fin 1024) : EReal :=
  max ((∑ d, x d * L.w1 e d h) + L.b1 e h) 0

/-- Output `o` of expert `e`. -/
def expert (L : Layer) (x : Fin 1024 → EReal) (e : Fin 16) (o : Fin 1024) : EReal :=
  (∑ h, hidden L x e h * L.w2 e h o) + L.b2 e o

/-- Output `o` of the layer: the experts weighed by the gate. -/
def mix (L : Layer) (x : Fin 1024 → EReal) (o : Fin 1024) : EReal := ∑ e, gate L x e * expert L x e o

/-- The layer's halting probability. -/
def prob (L : Layer) (x : Fin 1024 → EReal) : EReal := Ideal.logistic ((∑ d, x d * L.wh d) + L.bh)

/-- What a sample carries from layer to layer. -/
structure State where
  hp : EReal
  act : EReal
  out : Fin 1024 → EReal
  nupd : EReal
  rem : EReal
  depth : EReal

/-- Before the first layer: active, everything else zero. -/
def start : State := ⟨0, 1, fun _ => 0, 0, 0, 0⟩

/-- `1` if the probability `p` takes an active sample past the threshold, else `0`. -/
def halted (p hp act : EReal) : EReal := (if thr ≤ hp + p * act then 1 else 0) * act

/-- What a halting sample still lacks to the threshold. -/
def lack (p hp act : EReal) : EReal := halted p hp act * (thr - hp)

/-- The accumulated halting probability after the layer. -/
def hpNext (p hp act : EReal) : EReal := hp + p * (act - halted p hp act) + lack p hp act

/-- The weight with which the layer's output enters. -/
def weight (p hp act : EReal) : EReal := p * (act - halted p hp act) + lack p hp act

/-- The halting step: the state after a layer with probability `p` and output `y`. -/
def halt (p : EReal) (y : Fin 1024 → EReal) (s : State) : State where
  hp := hpNext p s.hp s.act
  act := if hpNext p s.hp s.act < thr then 1 else 0
  out := fun o => s.out o * (1 - weight p s.hp s.act) + y o * weight p s.hp s.act
  nupd := s.nupd + weight p s.hp s.act
  rem := s.rem + halted p s.hp s.act * (1 - hpNext p s.hp s.act)
  depth := s.depth + s.act

/-- One layer on the input row `x`. -/
def layer (L : Layer) (x : Fin 1024 → EReal) (s : State) : State := halt (prob L x) (mix L x) s

/-- The state after the first layer, whose input is the sample. -/
def after1 (L : Fin 2 → Layer) (x : Fin 1024 → EReal) : State := layer (L 0) x start

/-- The state after both layers: the second one's input is the first one's output. -/
def after2 (L : Fin 2 → Layer) (x : Fin 1024 → EReal) : State :=
  layer (L 1) (after1 L x).out (after1 L x)

end Cert.Spec
-- ==== Proof.Params.lean ====
/-
  The two layers' parameters, read off the argument arrays.
-/
module

public import proofs.«01_k».proof.Proof.Spec
public import Idealize.ShloMosaic.Lib.Pointwise

@[expose] public section

noncomputable section

namespace Cert.Spec

open Idealize.ShloMosaic

/-- Layer `s`'s parameters: slice `s` of each argument array. -/
def params (wg : Vec Ideal ⟨3, ![2, 1024, 16]⟩ .f32) (bg : Vec Ideal ⟨2, ![2, 16]⟩ .f32)
    (w1 : Vec Ideal ⟨4, ![2, 16, 1024, 1024]⟩ .f32) (b1 : Vec Ideal ⟨3, ![2, 16, 1024]⟩ .f32)
    (w2 : Vec Ideal ⟨4, ![2, 16, 1024, 1024]⟩ .f32) (b2 : Vec Ideal ⟨3, ![2, 16, 1024]⟩ .f32)
    (wh : Vec Ideal ⟨3, ![2, 1024, 1]⟩ .f32) (bh : Vec Ideal ⟨2, ![2, 1]⟩ .f32) (s : Fin 2) : Layer where
  wg k e := wg (ix3 s k e)
  bg e := bg (ix2 s e)
  w1 e d h := w1 (ix4 s e d h)
  b1 e h := b1 (ix3 s e h)
  w2 e h o := w2 (ix4 s e h o)
  b2 e o := b2 (ix3 s e o)
  wh d := wh (ix3 s d 0)
  bh := bh (ix2 s 0)

/-- Row `r` of the input array. -/
def row (x : Vec Ideal ⟨2, ![32, 1024]⟩ .f32) (r : Fin 32) : Fin 1024 → EReal := fun d => x (ix2 r d)

end Cert.Spec
-- ==== Proof.Payload.lean ====
/-
  What the kernel body computes at one grid point, read row by row over the extended reals.

  The body's own terms (one for each value it stores) are read at an index. The gate is the softmax of `Spec`; a quarter
  of an expert's hidden units gives one summand of the expert's output; the halting step is that of `Spec`.
-/
module

public import proofs.«01_k».proof.Defs
public import proofs.«01_k».proof.Proof.Params
public import proofs.«01_k».proof.Proof.Gen.KernelIdeal.Skeleton
public import Idealize.ShloMosaic.Lib.Pipeline.Value
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Payload

open Cert.KernelIdeal Cert.KernelIdeal.Gen Idealize.ShloMosaic

/-- Hidden unit `j` of quarter `k`. -/
abbrev unit (k : Fin 4) (j : Fin 256) : Fin 1024 := ⟨256 * k.val + j.val, by omega⟩

/-- What one quarter of the hidden units adds to an expert's output: `w` and `b` make the units, `v` weighs them. -/
def quarter (x : Fin 1024 → EReal) (w : Fin 1024 → Fin 256 → EReal) (b v : Fin 256 → EReal) : EReal :=
  ∑ j, max ((∑ d, x d * w d j) + b j) 0 * v j

/-- A sum over all hidden units is the sum of the four quarters' sums. -/
theorem sum_units (f : Fin 1024 → EReal) :
    ∑ h, f h = (∑ j, f (unit 0 j)) + (∑ j, f (unit 1 j)) + (∑ j, f (unit 2 j)) + ∑ j, f (unit 3 j) := by
  have h := (finProdFinEquiv (m := 4) (n := 256)).sum_comp f
  rw [← h, Fintype.sum_prod_type, Fin.sum_univ_four]
  have e (k : Fin 4) (j : Fin 256) : finProdFinEquiv (k, j) = (unit k j : Fin (4 * 256)) := Fin.ext (Nat.add_comm _ _)
  simp only [e]

/-- A choice by a comparison's truth bit. -/
theorem select_decide {α : Type} (P : Prop) [Decidable P] (a b : α) :
    Scalar.select (BitVec.ofBool (decide P)) a b = if P then a else b := by
  by_cases h : P <;> simp [Scalar.select, h]

/-- A choice by equality with one lane's number keeps that lane. -/
theorem sum_lane (e : Fin 16) (g : Fin 16 → EReal) :
    (∑ k : Fin 16, Scalar.select (IntOp.cmpi .eq (BitVec.ofNat 32 k.val) (BitVec.ofNat 32 e.val)) (g k) 0) = g e := by
  have h : ∀ e k : Fin 16, IntOp.cmpi .eq (BitVec.ofNat 32 k.val) (BitVec.ofNat 32 e.val) = BitVec.ofBool (decide (k = e)) := by
    decide
  simp only [h, select_decide]
  simp

/-- The gate's payload is the softmax of the row's logits. -/
theorem gate_apply (x : Vec Ideal S32x1024 .f32) (w : Vec Ideal S1x1024x16 .f32) (b : Vec Ideal S1x1x16 .f32)
    (r : Fin 32) (e : Fin 16) : k0_pay22 x w b (ix2 r e)
      = Spec.softmax (fun k => (∑ d, x (ix2 r d) * w (ix3 0 d k)) + b (ix3 0 0 k)) e := by
  have hb : Ideal.ofBits .f32 0xFF800000#32 = ⊥ := by simp [Ideal.ofBits, Ideal.ieee]
  unfold k0_pay22 Spec.softmax Spec.top
  pointwise
  rw [hb]

/-- The first quarter's payload: the second bias and the quarter's sum. -/
theorem first_apply (x : Vec Ideal S32x1024 .f32) (b1 b2 : Vec Ideal S1x1x1x1024 .f32)
    (w : Vec Ideal S1x1x1024x256 .f32) (v : Vec Ideal S1x1x256x1024 .f32) (r : Fin 32) (o : Fin 1024) :
    k0_pay25 x b1 b2 w v (ix2 r o) = b2 (ix4 0 0 0 o)
      + quarter (fun d => x (ix2 r d)) (fun d j => w (ix4 0 0 d j)) (fun j => b1 (ix4 0 0 0 (unit 0 j)))
          (fun j => v (ix4 0 0 j o)) := by
  have e (j : Fin 256) : unit 0 j = ⟨j.val, by omega⟩ := Fin.ext (Nat.zero_add _)
  unfold k0_pay25 k0_pay24 quarter
  simp only [e]
  pointwise

/-- The second and third quarters' payload: two more sums. -/
theorem middle_apply (x : Vec Ideal S32x1024 .f32) (b1 : Vec Ideal S1x1x1x1024 .f32) (y : Vec Ideal S32x1024 .f32)
    (w w' : Vec Ideal S1x1x1024x256 .f32) (v v' : Vec Ideal S1x1x256x1024 .f32) (r : Fin 32) (o : Fin 1024) :
    k0_pay26 x (k0_pay24 b1) y w v w' v' (ix2 r o) = y (ix2 r o)
      + quarter (fun d => x (ix2 r d)) (fun d j => w (ix4 0 0 d j)) (fun j => b1 (ix4 0 0 0 (unit 1 j)))
          (fun j => v (ix4 0 0 j o))
      + quarter (fun d => x (ix2 r d)) (fun d j => w' (ix4 0 0 d j)) (fun j => b1 (ix4 0 0 0 (unit 2 j)))
          (fun j => v' (ix4 0 0 j o)) := by
  unfold k0_pay26 k0_pay24 quarter
  pointwise
  rfl

/-- The last quarter's hidden units before the rectifier. -/
theorem last_apply (x : Vec Ideal S32x1024 .f32) (b1 : Vec Ideal S1x1x1x1024 .f32)
    (w : Vec Ideal S1x1x1024x256 .f32) (r : Fin 32) (j : Fin 256) :
    k0_pay27 x (k0_pay24 b1) w (ix2 r j)
      = (∑ d, x (ix2 r d) * w (ix4 0 0 d j)) + b1 (ix4 0 0 0 (unit 3 j)) := by
  unfold k0_pay27 k0_pay24
  pointwise
  rfl

/-- The accumulator's payload: the expert's output enters with the gate's entry in lane `e`. -/
theorem acc_apply (e : Fin 16) (y : Vec Ideal S32x1024 .f32) (h : Vec Ideal S32x256 .f32)
    (v : Vec Ideal S1x1x256x1024 .f32) (g : Vec Ideal S32x16 .f32) (a : Vec Ideal S32x1024 .f32)
    (r : Fin 32) (o : Fin 1024) :
    k0_pay1 (BitVec.ofNat 32 e.val) y h (k0_pay28 (F := Ideal)) v g a (ix2 r o) = a (ix2 r o)
      + g (ix2 r e) * (y (ix2 r o) + ∑ j, max (h (ix2 r j)) 0 * v (ix4 0 0 j o)) := by
  unfold k0_pay1 k0_pay28
  pointwise
  rw [sum_lane e fun k => g (ix2 r k)]

section Step

variable {F : FTy → Type} [FloatOps F]

/-- The accumulator after a grid point: from the layer's input `x`, the expert's number and blocks, the gate `g` and the
    accumulator `a` before. -/
def step (e : BitVec 32) (x : Vec F S32x1024 .f32) (b1 b2 : Vec F S1x1x1x1024 .f32)
    (w0 w1 w2 w3 : Vec F S1x1x1024x256 .f32) (v0 v1 v2 v3 : Vec F S1x1x256x1024 .f32) (g : Vec F S32x16 .f32)
    (a : Vec F S32x1024 .f32) : Vec F S32x1024 .f32 :=
  k0_pay1 e (k0_pay26 x (k0_pay24 b1) (k0_pay25 x b1 b2 w0 v0) w1 v1 w2 v2) (k0_pay27 x (k0_pay24 b1) w3) k0_pay28 v3 g a

end Step

/-- A grid point adds its expert's output, weighed by the gate, to the accumulator. -/
theorem step_apply (L : Spec.Layer) (e : Fin 16) (x : Vec Ideal S32x1024 .f32) (b1 b2 : Vec Ideal S1x1x1x1024 .f32)
    (w0 w1 w2 w3 : Vec Ideal S1x1x1024x256 .f32) (v0 v1 v2 v3 : Vec Ideal S1x1x256x1024 .f32)
    (g : Vec Ideal S32x16 .f32) (a : Vec Ideal S32x1024 .f32)
    (hb1 : ∀ h, b1 (ix4 0 0 0 h) = L.b1 e h) (hb2 : ∀ o, b2 (ix4 0 0 0 o) = L.b2 e o)
    (hw0 : ∀ d j, w0 (ix4 0 0 d j) = L.w1 e d (unit 0 j)) (hw1 : ∀ d j, w1 (ix4 0 0 d j) = L.w1 e d (unit 1 j))
    (hw2 : ∀ d j, w2 (ix4 0 0 d j) = L.w1 e d (unit 2 j)) (hw3 : ∀ d j, w3 (ix4 0 0 d j) = L.w1 e d (unit 3 j))
    (hv0 : ∀ j o, v0 (ix4 0 0 j o) = L.w2 e (unit 0 j) o) (hv1 : ∀ j o, v1 (ix4 0 0 j o) = L.w2 e (unit 1 j) o)
    (hv2 : ∀ j o, v2 (ix4 0 0 j o) = L.w2 e (unit 2 j) o) (hv3 : ∀ j o, v3 (ix4 0 0 j o) = L.w2 e (unit 3 j) o)
    (r : Fin 32) (o : Fin 1024) :
    step (BitVec.ofNat 32 e.val) x b1 b2 w0 w1 w2 w3 v0 v1 v2 v3 g a (ix2 r o)
      = a (ix2 r o) + g (ix2 r e) * Spec.expert L (fun d => x (ix2 r d)) e o := by
  unfold step Spec.expert Spec.hidden
  rw [acc_apply, middle_apply, first_apply, sum_units]
  simp only [last_apply, quarter, hb1, hb2, hw0, hw1, hw2, hw3, hv0, hv1, hv2, hv3]
  congr 2
  rw [add_comm (_ + _) (L.b2 e o)]
  simp only [add_assoc]

/-- The halting probability's payload. -/
theorem prob_apply (x : Vec Ideal S32x1024 .f32) (w : Vec Ideal S1x1024x1 .f32) (b : Vec Ideal S1x1x1 .f32)
    (r : Fin 32) : k0_pay3 x w b (ix2 r 0)
      = Ideal.logistic ((∑ d, x (ix2 r d) * w (ix3 0 d 0)) + b (ix3 0 0 0)) := by
  unfold k0_pay3
  pointwise

section Halt

variable (x : Vec Ideal S32x1024 .f32) (w : Vec Ideal S1x1024x1 .f32) (b : Vec Ideal S1x1x1 .f32)
  (act hp : Vec Ideal S32x1 .f32) (r : Fin 32)

/-- Whether the sample halts in this layer. -/
theorem halted_apply : k0_pay4 x w b act hp (ix2 r 0)
    = Spec.halted (k0_pay3 x w b (ix2 r 0)) (hp (ix2 r 0)) (act (ix2 r 0)) := by
  unfold k0_pay4 Spec.halted Spec.thr
  pointwise

/-- What a halting sample still lacks to the threshold. -/
theorem lack_apply : k0_pay6 x w b act hp (ix2 r 0)
    = Spec.lack (k0_pay3 x w b (ix2 r 0)) (hp (ix2 r 0)) (act (ix2 r 0)) := by
  unfold k0_pay6 Spec.lack Spec.thr
  pointwise
  rw [halted_apply]

/-- The accumulated halting probability. -/
theorem hpNext_apply : k0_pay7 x w b act hp (ix2 r 0)
    = Spec.hpNext (k0_pay3 x w b (ix2 r 0)) (hp (ix2 r 0)) (act (ix2 r 0)) := by
  unfold k0_pay7 k0_pay5 Spec.hpNext
  pointwise
  rw [halted_apply, lack_apply]

/-- The weight with which the layer's output enters. -/
theorem weight_apply : k0_pay8 x w b act hp (ix2 r 0)
    = Spec.weight (k0_pay3 x w b (ix2 r 0)) (hp (ix2 r 0)) (act (ix2 r 0)) := by
  unfold k0_pay8 k0_pay5 Spec.weight
  pointwise
  rw [halted_apply, lack_apply]

/-- The remainder. -/
theorem rem_apply (rem : Vec Ideal S32x1 .f32) : k0_pay9 x w b act hp rem (ix2 r 0) = rem (ix2 r 0)
    + Spec.halted (k0_pay3 x w b (ix2 r 0)) (hp (ix2 r 0)) (act (ix2 r 0))
      * (1 - Spec.hpNext (k0_pay3 x w b (ix2 r 0)) (hp (ix2 r 0)) (act (ix2 r 0))) := by
  unfold k0_pay9
  pointwise
  rw [halted_apply, hpNext_apply]

/-- The mixed output. -/
theorem out_apply (u : Vec Ideal S32x1 .f32) (y z : Vec Ideal S32x1024 .f32) (o : Fin 1024) :
    k0_pay10 u y z (ix2 r o) = y (ix2 r o) * (1 - u (ix2 r 0)) + z (ix2 r o) * u (ix2 r 0) := by
  unfold k0_pay10
  pointwise

/-- The counter of layers run. -/
theorem depth_apply (d : Vec Ideal S32x1 .f32) : k0_pay11 act d (ix2 r 0) = d (ix2 r 0) + act (ix2 r 0) := by
  unfold k0_pay11
  pointwise

/-- The counter of updates. -/
theorem nupd_apply (u d : Vec Ideal S32x1 .f32) : k0_pay12 u d (ix2 r 0) = d (ix2 r 0) + u (ix2 r 0) := by
  unfold k0_pay12
  pointwise

/-- The accumulated halting probability is stored as it is. -/
theorem hp_eq (h : FVec Ideal S32x1 .f32) : k0_pay13 h = h := by
  unfold k0_pay13
  exact shapeCast_self ..

/-- Whether the sample is still active. -/
theorem act_apply (h : FVec Ideal S32x1 .f32) :
    k0_pay14 h (ix2 r 0) = if h (ix2 r 0) < Spec.thr then 1 else 0 := by
  unfold k0_pay14 Spec.thr
  pointwise

end Halt

/-- The next layer's input is the mixed output. -/
theorem next_eq (y : Vec Ideal S32x1024 .f32) : k0_pay2 y = y := by
  unfold k0_pay2
  simp only [shapeCast_self]

/-- The first layer's input is the sample. -/
theorem input_eq (y : Vec Ideal S32x1024 .f32) : k0_pay15 y = y := by
  unfold k0_pay15
  exact shapeCast_self ..

/-- The output starts at zero. -/
theorem out0_apply (r : Fin 32) (o : Fin 1024) : k0_pay16 (F := Ideal) (ix2 r o) = 0 := by
  unfold k0_pay16
  pointwise

/-- The counter of updates starts at zero. -/
theorem nupd0_apply (r : Fin 32) : k0_pay17 (F := Ideal) (ix2 r 0) = 0 := by
  unfold k0_pay17
  pointwise

/-- The remainder starts at zero. -/
theorem rem0_apply (r : Fin 32) : k0_pay18 (F := Ideal) (ix2 r 0) = 0 := by
  unfold k0_pay18
  pointwise

/-- The counter of layers starts at zero. -/
theorem depth0_apply (r : Fin 32) : k0_pay19 (F := Ideal) (ix2 r 0) = 0 := by
  unfold k0_pay19
  pointwise

/-- The accumulated halting probability starts at zero. -/
theorem hp0_apply (r : Fin 32) : k0_pay20 (F := Ideal) (ix2 r 0) = 0 := by
  unfold k0_pay20
  pointwise

/-- Every sample starts active. -/
theorem act0_apply (r : Fin 32) : k0_pay21 (F := Ideal) (ix2 r 0) = 1 := by
  unfold k0_pay21
  pointwise

/-- The accumulator starts each layer at zero. -/
theorem acc0_apply (r : Fin 32) (o : Fin 1024) : k0_pay23 (F := Ideal) (ix2 r o) = 0 := by
  unfold k0_pay23
  pointwise

end Cert.KernelIdeal.Payload
-- ==== Proof.Blocks.lean ====
/-
  Which entries of the argument arrays each grid point's blocks hold.

  Grid point `t` runs expert `t mod 16` of layer `t / 16`. Its blocks are slices of the weight arrays at that layer and
  expert; four of them are the quarters of an expert's first matrix, four the quarters of its second. The bias arrays
  reach the grid reshaped, with an axis of extent one put in.
-/
module

public import proofs.«01_k».proof.Proof.Payload
public import proofs.«01_k».proof.Proof.Gen.KernelIdeal.Frame.Runs
public import Idealize.ShloMosaic.Lib.StableHlo.Run

@[expose] public section

set_option maxRecDepth 16384

noncomputable section

namespace Cert.KernelIdeal.Blocks

open Cert.KernelIdeal Cert.KernelIdeal.Gen Cert.KernelIdeal.Payload Idealize.ShloMosaic Idealize.ShloMosaic.TcCoe

variable (m : (ℓ : Loc nD τ sig) → Buf (Elt Ideal) ℓ) (c : Dev nD)

/-- The grid has 32 points. -/
theorem lt_points (t : Fin cfg0.N) : t.val < 32 := lt_of_lt_of_eq t.isLt N_0

/-- The layer of a grid point. -/
abbrev layer (t : Fin cfg0.N) : Fin 2 := ⟨t.val / 16, by have := lt_points t; omega⟩

/-- The expert of a grid point. -/
abbrev expert (t : Fin cfg0.N) : Fin 16 := ⟨t.val % 16, by omega⟩

/-- The second grid coordinate is the expert's number. -/
theorem coord_expert : ∀ t : Fin cfg0.N, ((grid0.coords t) 1).val = t.val % 16 := by decide +kernel

/-! ## The arrays the grid reads -/

/-- The gate's bias, reshaped. -/
theorem V_bg : (V m c main_call0_v0 : Vec Ideal S2x1x16 .f32)
    = shapeCast S2x1x16 (m ((c : Thread nD τ).loc main_arg2)) shapeCasts_S2x16_S2x1x16 := by
  show StableHlo.after hostOps0 (fun b => m (c, b)) (Proc.devRef .tc main_call0_v0) = _
  after_results
  rfl

/-- The experts' first bias, reshaped. -/
theorem V_b1 : (V m c main_call0_v1 : Vec Ideal S2x16x1x1024 .f32)
    = shapeCast S2x16x1x1024 (m ((c : Thread nD τ).loc main_arg4)) shapeCasts_S2x16x1024_S2x16x1x1024 := by
  show StableHlo.after hostOps0 (fun b => m (c, b)) (Proc.devRef .tc main_call0_v1) = _
  after_results
  rfl

/-- The experts' second bias, reshaped. -/
theorem V_b2 : (V m c main_call0_v2 : Vec Ideal S2x16x1x1024 .f32)
    = shapeCast S2x16x1x1024 (m ((c : Thread nD τ).loc main_arg6)) shapeCasts_S2x16x1024_S2x16x1x1024 := by
  show StableHlo.after hostOps0 (fun b => m (c, b)) (Proc.devRef .tc main_call0_v2) = _
  after_results
  rfl

/-- The halting bias, reshaped. -/
theorem V_bh : (V m c main_call0_v3 : Vec Ideal S2x1x1 .f32)
    = shapeCast S2x1x1 (m ((c : Thread nD τ).loc main_arg8)) shapeCasts_S2x1_S2x1x1 := by
  show StableHlo.after hostOps0 (fun b => m (c, b)) (Proc.devRef .tc main_call0_v3) = _
  after_results
  rfl

/-! ## The blocks -/

/-- The whole sample array. -/
theorem x_apply (t : Fin cfg0.N) (r : Fin 32) (d : Fin 1024) :
    (iblk m c 0 t : Vec Ideal S32x1024 .f32) (ix2 r d)
      = m ((c : Thread nD τ).loc main_arg0) (ix2 r d) := by
  have h : ∀ t : Fin cfg0.N, win0_0.index t 0 = 0 ∧ win0_0.index t 1 = 0 := by
    decide +kernel
  obtain ⟨h0, h1⟩ := h t
  unfold iblk
  rw [View.read_apply]
  refine (congrArg (V m c main_arg0) (funext fun a => Fin.ext ?_ : _ = ix2 r d)).trans ?_
  · match a with
    | ⟨0, _⟩ => show win0_0.index t 0 * 32 + 1 * r.val = r.val; omega
    | ⟨1, _⟩ => show win0_0.index t 1 * 1024 + 1 * d.val = d.val; omega
  · rw [V_main_arg0]

/-- The layer's gate matrix. -/
theorem wg_apply (t : Fin cfg0.N) (d : Fin 1024) (e : Fin 16) :
    (iblk m c 1 t : Vec Ideal S1x1024x16 .f32) (ix3 0 d e)
      = m ((c : Thread nD τ).loc main_arg1) (ix3 (layer t) d e) := by
  have h : ∀ t : Fin cfg0.N, win0_1.index t 0 = t.val / 16 ∧ win0_1.index t 1 = 0 ∧ win0_1.index t 2 = 0 := by
    decide +kernel
  obtain ⟨h0, h1, h2⟩ := h t
  unfold iblk
  rw [View.read_apply]
  refine (congrArg (V m c main_arg1) (funext fun a => Fin.ext ?_ : _ = ix3 (layer t) d e)).trans ?_
  · match a with
    | ⟨0, _⟩ => show win0_1.index t 0 * 1 + 1 * 0 = t.val / 16; omega
    | ⟨1, _⟩ => show win0_1.index t 1 * 1024 + 1 * d.val = d.val; omega
    | ⟨2, _⟩ => show win0_1.index t 2 * 16 + 1 * e.val = e.val; omega
  · rw [V_main_arg1]

/-- The layer's gate bias. -/
theorem bg_apply (t : Fin cfg0.N) (e : Fin 16) :
    (iblk m c 2 t : Vec Ideal S1x1x16 .f32) (ix3 0 0 e)
      = m ((c : Thread nD τ).loc main_arg2) (ix2 (layer t) e) := by
  have h : ∀ t : Fin cfg0.N, win0_2.index t 0 = t.val / 16 ∧ win0_2.index t 1 = 0 ∧ win0_2.index t 2 = 0 := by
    decide +kernel
  obtain ⟨h0, h1, h2⟩ := h t
  unfold iblk
  rw [View.read_apply]
  refine (congrArg (V m c main_call0_v0) (funext fun a => Fin.ext ?_ : _ = ix3 (layer t) 0 e)).trans ?_
  · match a with
    | ⟨0, _⟩ => show win0_2.index t 0 * 1 + 1 * 0 = t.val / 16; omega
    | ⟨1, _⟩ => show win0_2.index t 1 * 1 + 1 * 0 = 0; omega
    | ⟨2, _⟩ => show win0_2.index t 2 * 16 + 1 * e.val = e.val; omega
  · rw [V_bg]
    pointwise

/-- The first quarter of the expert's first matrix. -/
theorem w1_0_apply (t : Fin cfg0.N) (d : Fin 1024) (j : Fin 256) :
    (iblk m c 3 t : Vec Ideal S1x1x1024x256 .f32) (ix4 0 0 d j)
      = m ((c : Thread nD τ).loc main_arg3) (ix4 (layer t) (expert t) d (unit 0 j)) := by
  have h : ∀ t : Fin cfg0.N, win0_3.index t 0 = t.val / 16 ∧ win0_3.index t 1 = t.val % 16 ∧ win0_3.index t 2 = 0 ∧ win0_3.index t 3 = 0 := by
    decide +kernel
  obtain ⟨h0, h1, h2, h3⟩ := h t
  unfold iblk
  rw [View.read_apply]
  refine (congrArg (V m c main_arg3) (funext fun a => Fin.ext ?_ : _ = ix4 (layer t) (expert t) d (unit 0 j))).trans ?_
  · match a with
    | ⟨0, _⟩ => show win0_3.index t 0 * 1 + 1 * 0 = t.val / 16; omega
    | ⟨1, _⟩ => show win0_3.index t 1 * 1 + 1 * 0 = t.val % 16; omega
    | ⟨2, _⟩ => show win0_3.index t 2 * 1024 + 1 * d.val = d.val; omega
    | ⟨3, _⟩ => show win0_3.index t 3 * 256 + 1 * j.val = 256 * 0 + j.val; omega
  · rw [V_main_arg3]

/-- The second quarter of the expert's first matrix. -/
theorem w1_1_apply (t : Fin cfg0.N) (d : Fin 1024) (j : Fin 256) :
    (iblk m c 4 t : Vec Ideal S1x1x1024x256 .f32) (ix4 0 0 d j)
      = m ((c : Thread nD τ).loc main_arg3) (ix4 (layer t) (expert t) d (unit 1 j)) := by
  have h : ∀ t : Fin cfg0.N, win0_4.index t 0 = t.val / 16 ∧ win0_4.index t 1 = t.val % 16 ∧ win0_4.index t 2 = 0 ∧ win0_4.index t 3 = 1 := by
    decide +kernel
  obtain ⟨h0, h1, h2, h3⟩ := h t
  unfold iblk
  rw [View.read_apply]
  refine (congrArg (V m c main_arg3) (funext fun a => Fin.ext ?_ : _ = ix4 (layer t) (expert t) d (unit 1 j))).trans ?_
  · match a with
    | ⟨0, _⟩ => show win0_4.index t 0 * 1 + 1 * 0 = t.val / 16; omega
    | ⟨1, _⟩ => show win0_4.index t 1 * 1 + 1 * 0 = t.val % 16; omega
    | ⟨2, _⟩ => show win0_4.index t 2 * 1024 + 1 * d.val = d.val; omega
    | ⟨3, _⟩ => show win0_4.index t 3 * 256 + 1 * j.val = 256 * 1 + j.val; omega
  · rw [V_main_arg3]

/-- The third quarter of the expert's first matrix. -/
theorem w1_2_apply (t : Fin cfg0.N) (d : Fin 1024) (j : Fin 256) :
    (iblk m c 5 t : Vec Ideal S1x1x1024x256 .f32) (ix4 0 0 d j)
      = m ((c : Thread nD τ).loc main_arg3) (ix4 (layer t) (expert t) d (unit 2 j)) := by
  have h : ∀ t : Fin cfg0.N, win0_5.index t 0 = t.val / 16 ∧ win0_5.index t 1 = t.val % 16 ∧ win0_5.index t 2 = 0 ∧ win0_5.index t 3 = 2 := by
    decide +kernel
  obtain ⟨h0, h1, h2, h3⟩ := h t
  unfold iblk
  rw [View.read_apply]
  refine (congrArg (V m c main_arg3) (funext fun a => Fin.ext ?_ : _ = ix4 (layer t) (expert t) d (unit 2 j))).trans ?_
  · match a with
    | ⟨0, _⟩ => show win0_5.index t 0 * 1 + 1 * 0 = t.val / 16; omega
    | ⟨1, _⟩ => show win0_5.index t 1 * 1 + 1 * 0 = t.val % 16; omega
    | ⟨2, _⟩ => show win0_5.index t 2 * 1024 + 1 * d.val = d.val; omega
    | ⟨3, _⟩ => show win0_5.index t 3 * 256 + 1 * j.val = 256 * 2 + j.val; omega
  · rw [V_main_arg3]

/-- The fourth quarter of the expert's first matrix. -/
theorem w1_3_apply (t : Fin cfg0.N) (d : Fin 1024) (j : Fin 256) :
    (iblk m c 6 t : Vec Ideal S1x1x1024x256 .f32) (ix4 0 0 d j)
      = m ((c : Thread nD τ).loc main_arg3) (ix4 (layer t) (expert t) d (unit 3 j)) := by
  have h : ∀ t : Fin cfg0.N, win0_6.index t 0 = t.val / 16 ∧ win0_6.index t 1 = t.val % 16 ∧ win0_6.index t 2 = 0 ∧ win0_6.index t 3 = 3 := by
    decide +kernel
  obtain ⟨h0, h1, h2, h3⟩ := h t
  unfold iblk
  rw [View.read_apply]
  refine (congrArg (V m c main_arg3) (funext fun a => Fin.ext ?_ : _ = ix4 (layer t) (expert t) d (unit 3 j))).trans ?_
  · match a with
    | ⟨0, _⟩ => show win0_6.index t 0 * 1 + 1 * 0 = t.val / 16; omega
    | ⟨1, _⟩ => show win0_6.index t 1 * 1 + 1 * 0 = t.val % 16; omega
    | ⟨2, _⟩ => show win0_6.index t 2 * 1024 + 1 * d.val = d.val; omega
    | ⟨3, _⟩ => show win0_6.index t 3 * 256 + 1 * j.val = 256 * 3 + j.val; omega
  · rw [V_main_arg3]

/-- The expert's first bias. -/
theorem b1_apply (t : Fin cfg0.N) (j : Fin 1024) :
    (iblk m c 7 t : Vec Ideal S1x1x1x1024 .f32) (ix4 0 0 0 j)
      = m ((c : Thread nD τ).loc main_arg4) (ix3 (layer t) (expert t) j) := by
  have h : ∀ t : Fin cfg0.N, win0_7.index t 0 = t.val / 16 ∧ win0_7.index t 1 = t.val % 16 ∧ win0_7.index t 2 = 0 ∧ win0_7.index t 3 = 0 := by
    decide +kernel
  obtain ⟨h0, h1, h2, h3⟩ := h t
  unfold iblk
  rw [View.read_apply]
  refine (congrArg (V m c main_call0_v1) (funext fun a => Fin.ext ?_ : _ = ix4 (layer t) (expert t) 0 j)).trans ?_
  · match a with
    | ⟨0, _⟩ => show win0_7.index t 0 * 1 + 1 * 0 = t.val / 16; omega
    | ⟨1, _⟩ => show win0_7.index t 1 * 1 + 1 * 0 = t.val % 16; omega
    | ⟨2, _⟩ => show win0_7.index t 2 * 1 + 1 * 0 = 0; omega
    | ⟨3, _⟩ => show win0_7.index t 3 * 1024 + 1 * j.val = j.val; omega
  · rw [V_b1]
    pointwise

/-- The first quarter of the expert's second matrix. -/
theorem w2_0_apply (t : Fin cfg0.N) (j : Fin 256) (o : Fin 1024) :
    (iblk m c 8 t : Vec Ideal S1x1x256x1024 .f32) (ix4 0 0 j o)
      = m ((c : Thread nD τ).loc main_arg5) (ix4 (layer t) (expert t) (unit 0 j) o) := by
  have h : ∀ t : Fin cfg0.N, win0_8.index t 0 = t.val / 16 ∧ win0_8.index t 1 = t.val % 16 ∧ win0_8.index t 2 = 0 ∧ win0_8.index t 3 = 0 := by
    decide +kernel
  obtain ⟨h0, h1, h2, h3⟩ := h t
  unfold iblk
  rw [View.read_apply]
  refine (congrArg (V m c main_arg5) (funext fun a => Fin.ext ?_ : _ = ix4 (layer t) (expert t) (unit 0 j) o)).trans ?_
  · match a with
    | ⟨0, _⟩ => show win0_8.index t 0 * 1 + 1 * 0 = t.val / 16; omega
    | ⟨1, _⟩ => show win0_8.index t 1 * 1 + 1 * 0 = t.val % 16; omega
    | ⟨2, _⟩ => show win0_8.index t 2 * 256 + 1 * j.val = 256 * 0 + j.val; omega
    | ⟨3, _⟩ => show win0_8.index t 3 * 1024 + 1 * o.val = o.val; omega
  · rw [V_main_arg5]

/-- The second quarter of the expert's second matrix. -/
theorem w2_1_apply (t : Fin cfg0.N) (j : Fin 256) (o : Fin 1024) :
    (iblk m c 9 t : Vec Ideal S1x1x256x1024 .f32) (ix4 0 0 j o)
      = m ((c : Thread nD τ).loc main_arg5) (ix4 (layer t) (expert t) (unit 1 j) o) := by
  have h : ∀ t : Fin cfg0.N, win0_9.index t 0 = t.val / 16 ∧ win0_9.index t 1 = t.val % 16 ∧ win0_9.index t 2 = 1 ∧ win0_9.index t 3 = 0 := by
    decide +kernel
  obtain ⟨h0, h1, h2, h3⟩ := h t
  unfold iblk
  rw [View.read_apply]
  refine (congrArg (V m c main_arg5) (funext fun a => Fin.ext ?_ : _ = ix4 (layer t) (expert t) (unit 1 j) o)).trans ?_
  · match a with
    | ⟨0, _⟩ => show win0_9.index t 0 * 1 + 1 * 0 = t.val / 16; omega
    | ⟨1, _⟩ => show win0_9.index t 1 * 1 + 1 * 0 = t.val % 16; omega
    | ⟨2, _⟩ => show win0_9.index t 2 * 256 + 1 * j.val = 256 * 1 + j.val; omega
    | ⟨3, _⟩ => show win0_9.index t 3 * 1024 + 1 * o.val = o.val; omega
  · rw [V_main_arg5]

/-- The third quarter of the expert's second matrix. -/
theorem w2_2_apply (t : Fin cfg0.N) (j : Fin 256) (o : Fin 1024) :
    (iblk m c 10 t : Vec Ideal S1x1x256x1024 .f32) (ix4 0 0 j o)
      = m ((c : Thread nD τ).loc main_arg5) (ix4 (layer t) (expert t) (unit 2 j) o) := by
  have h : ∀ t : Fin cfg0.N, win0_10.index t 0 = t.val / 16 ∧ win0_10.index t 1 = t.val % 16 ∧ win0_10.index t 2 = 2 ∧ win0_10.index t 3 = 0 := by
    decide +kernel
  obtain ⟨h0, h1, h2, h3⟩ := h t
  unfold iblk
  rw [View.read_apply]
  refine (congrArg (V m c main_arg5) (funext fun a => Fin.ext ?_ : _ = ix4 (layer t) (expert t) (unit 2 j) o)).trans ?_
  · match a with
    | ⟨0, _⟩ => show win0_10.index t 0 * 1 + 1 * 0 = t.val / 16; omega
    | ⟨1, _⟩ => show win0_10.index t 1 * 1 + 1 * 0 = t.val % 16; omega
    | ⟨2, _⟩ => show win0_10.index t 2 * 256 + 1 * j.val = 256 * 2 + j.val; omega
    | ⟨3, _⟩ => show win0_10.index t 3 * 1024 + 1 * o.val = o.val; omega
  · rw [V_main_arg5]

/-- The fourth quarter of the expert's second matrix. -/
theorem w2_3_apply (t : Fin cfg0.N) (j : Fin 256) (o : Fin 1024) :
    (iblk m c 11 t : Vec Ideal S1x1x256x1024 .f32) (ix4 0 0 j o)
      = m ((c : Thread nD τ).loc main_arg5) (ix4 (layer t) (expert t) (unit 3 j) o) := by
  have h : ∀ t : Fin cfg0.N, win0_11.index t 0 = t.val / 16 ∧ win0_11.index t 1 = t.val % 16 ∧ win0_11.index t 2 = 3 ∧ win0_11.index t 3 = 0 := by
    decide +kernel
  obtain ⟨h0, h1, h2, h3⟩ := h t
  unfold iblk
  rw [View.read_apply]
  refine (congrArg (V m c main_arg5) (funext fun a => Fin.ext ?_ : _ = ix4 (layer t) (expert t) (unit 3 j) o)).trans ?_
  · match a with
    | ⟨0, _⟩ => show win0_11.index t 0 * 1 + 1 * 0 = t.val / 16; omega
    | ⟨1, _⟩ => show win0_11.index t 1 * 1 + 1 * 0 = t.val % 16; omega
    | ⟨2, _⟩ => show win0_11.index t 2 * 256 + 1 * j.val = 256 * 3 + j.val; omega
    | ⟨3, _⟩ => show win0_11.index t 3 * 1024 + 1 * o.val = o.val; omega
  · rw [V_main_arg5]

/-- The expert's second bias. -/
theorem b2_apply (t : Fin cfg0.N) (o : Fin 1024) :
    (iblk m c 12 t : Vec Ideal S1x1x1x1024 .f32) (ix4 0 0 0 o)
      = m ((c : Thread nD τ).loc main_arg6) (ix3 (layer t) (expert t) o) := by
  have h : ∀ t : Fin cfg0.N, win0_12.index t 0 = t.val / 16 ∧ win0_12.index t 1 = t.val % 16 ∧ win0_12.index t 2 = 0 ∧ win0_12.index t 3 = 0 := by
    decide +kernel
  obtain ⟨h0, h1, h2, h3⟩ := h t
  unfold iblk
  rw [View.read_apply]
  refine (congrArg (V m c main_call0_v2) (funext fun a => Fin.ext ?_ : _ = ix4 (layer t) (expert t) 0 o)).trans ?_
  · match a with
    | ⟨0, _⟩ => show win0_12.index t 0 * 1 + 1 * 0 = t.val / 16; omega
    | ⟨1, _⟩ => show win0_12.index t 1 * 1 + 1 * 0 = t.val % 16; omega
    | ⟨2, _⟩ => show win0_12.index t 2 * 1 + 1 * 0 = 0; omega
    | ⟨3, _⟩ => show win0_12.index t 3 * 1024 + 1 * o.val = o.val; omega
  · rw [V_b2]
    pointwise

/-- The layer's halting weights. -/
theorem wh_apply (t : Fin cfg0.N) (d : Fin 1024) :
    (iblk m c 13 t : Vec Ideal S1x1024x1 .f32) (ix3 0 d 0)
      = m ((c : Thread nD τ).loc main_arg7) (ix3 (layer t) d 0) := by
  have h : ∀ t : Fin cfg0.N, win0_13.index t 0 = t.val / 16 ∧ win0_13.index t 1 = 0 ∧ win0_13.index t 2 = 0 := by
    decide +kernel
  obtain ⟨h0, h1, h2⟩ := h t
  unfold iblk
  rw [View.read_apply]
  refine (congrArg (V m c main_arg7) (funext fun a => Fin.ext ?_ : _ = ix3 (layer t) d 0)).trans ?_
  · match a with
    | ⟨0, _⟩ => show win0_13.index t 0 * 1 + 1 * 0 = t.val / 16; omega
    | ⟨1, _⟩ => show win0_13.index t 1 * 1024 + 1 * d.val = d.val; omega
    | ⟨2, _⟩ => show win0_13.index t 2 * 1 + 1 * 0 = 0; omega
  · rw [V_main_arg7]

/-- The layer's halting bias. -/
theorem bh_apply (t : Fin cfg0.N) :
    (iblk m c 14 t : Vec Ideal S1x1x1 .f32) (ix3 0 0 0)
      = m ((c : Thread nD τ).loc main_arg8) (ix2 (layer t) 0) := by
  have h : ∀ t : Fin cfg0.N, win0_14.index t 0 = t.val / 16 ∧ win0_14.index t 1 = 0 ∧ win0_14.index t 2 = 0 := by
    decide +kernel
  obtain ⟨h0, h1, h2⟩ := h t
  unfold iblk
  rw [View.read_apply]
  refine (congrArg (V m c main_call0_v3) (funext fun a => Fin.ext ?_ : _ = ix3 (layer t) 0 0)).trans ?_
  · match a with
    | ⟨0, _⟩ => show win0_14.index t 0 * 1 + 1 * 0 = t.val / 16; omega
    | ⟨1, _⟩ => show win0_14.index t 1 * 1 + 1 * 0 = 0; omega
    | ⟨2, _⟩ => show win0_14.index t 2 * 1 + 1 * 0 = 0; omega
  · rw [V_bh]
    pointwise

end Cert.KernelIdeal.Blocks
-- ==== Proof.Step.lean ====
/-
  What the staging buffers and the scratch buffers hold after each grid point, as terms of what they held before it.

  The grid's body has three conditional parts: the start of the whole run (first point), the start of a layer (first
  expert) and the end of a layer (last expert). Here each buffer's contents after a point are read off the body's stores.
-/
module

public import proofs.«01_k».proof.Proof.Blocks
public import proofs.«01_k».proof.Proof.Gen.KernelIdeal.Frame
public import Idealize.ShloMosaic.Lib.Tactic

@[expose] public section

set_option maxRecDepth 16384

noncomputable section

namespace Cert.KernelIdeal.Step

open Cert.KernelIdeal Cert.KernelIdeal.Gen Cert.KernelIdeal.Payload Idealize.ShloMosaic Idealize.ShloMosaic.TcCoe

variable {F : FTy → Type} [FloatOps F]
variable (m : (ℓ : Loc nD τ sig) → Buf (Elt F) ℓ) (c : Dev nD)

/-- The whole-buffer offset of rank 2. -/
theorem zero2 : (![0, 0] : Fin 2 → Nat) = fun _ => 0 := funext fun a => by fin_cases a <;> rfl
/-- The whole-buffer offset of rank 3. -/
theorem zero3 : (![0, 0, 0] : Fin 3 → Nat) = fun _ => 0 := funext fun a => by fin_cases a <;> rfl
/-- The whole-buffer offset of rank 4. -/
theorem zero4 : (![0, 0, 0, 0] : Fin 4 → Nat) = fun _ => 0 := funext fun a => by fin_cases a <;> rfl

/-- The point before a point. -/
abbrev prev (t : Fin cfg0.N) : Fin cfg0.N := ⟨t.val - 1, Nat.lt_of_le_of_lt (Nat.sub_le _ _) t.isLt⟩

/-! ## The contents after a point -/

/-- The mixed output. -/
abbrev out (t : Fin cfg0.N) : Vec F S32x1024 .f32 := (outsAt0 m c t.val t.isLt).1
/-- The counter of updates. -/
abbrev nupd (t : Fin cfg0.N) : Vec F S32x1 .f32 := (outsAt0 m c t.val t.isLt).2.1
/-- The remainder. -/
abbrev rem (t : Fin cfg0.N) : Vec F S32x1 .f32 := (outsAt0 m c t.val t.isLt).2.2.1
/-- The counter of layers. -/
abbrev depth (t : Fin cfg0.N) : Vec F S32x1 .f32 := (outsAt0 m c t.val t.isLt).2.2.2.1
/-- The layer's input. -/
abbrev cur (t : Fin cfg0.N) : Vec F S32x1024 .f32 := (outsAt0 m c t.val t.isLt).2.2.2.2.1
/-- The accumulator of the experts' outputs. -/
abbrev acc (t : Fin cfg0.N) : Vec F S32x1024 .f32 := (outsAt0 m c t.val t.isLt).2.2.2.2.2.1
/-- The gate. -/
abbrev gate (t : Fin cfg0.N) : Vec F S32x16 .f32 := (outsAt0 m c t.val t.isLt).2.2.2.2.2.2.1
/-- The accumulated halting probability. -/
abbrev hp (t : Fin cfg0.N) : Vec F S32x1 .f32 := (outsAt0 m c t.val t.isLt).2.2.2.2.2.2.2.1
/-- Whether each sample is active. -/
abbrev act (t : Fin cfg0.N) : Vec F S32x1 .f32 := (outsAt0 m c t.val t.isLt).2.2.2.2.2.2.2.2

/-- The accumulator after point `t`, from the layer's input, the gate and the accumulator before. -/
def add (t : Fin cfg0.N) (x : Vec F S32x1024 .f32) (g : Vec F S32x16 .f32) (a : Vec F S32x1024 .f32) :
    Vec F S32x1024 .f32 :=
  step (BitVec.ofNat 32 ((grid0.coords t) 1).val) x (iblk m c 7 t) (iblk m c 12 t)
    (iblk m c 3 t) (iblk m c 4 t) (iblk m c 5 t) (iblk m c 6 t)
    (iblk m c 8 t) (iblk m c 9 t) (iblk m c 10 t) (iblk m c 11 t) g a

/-- Reading the whole of the layer's input buffer gives its contents. -/
theorem read0 (x : Vec F S32x1024 .f32) :
    View.read (Elt F) (View.whole cc0_scratch0) ((Memref.isWhole_whole cc0_scratch0).unread x) = x :=
  (Memref.isWhole_whole cc0_scratch0).read_unread x

/-- The same for the accumulator. -/
theorem read1 (x : Vec F S32x1024 .f32) :
    View.read (Elt F) (View.whole cc0_scratch1) ((Memref.isWhole_whole cc0_scratch1).unread x) = x :=
  (Memref.isWhole_whole cc0_scratch1).read_unread x

/-- The same for the gate. -/
theorem read2 (x : Vec F S32x16 .f32) :
    View.read (Elt F) (View.whole cc0_scratch2) ((Memref.isWhole_whole cc0_scratch2).unread x) = x :=
  (Memref.isWhole_whole cc0_scratch2).read_unread x

/-- The same for the halting probability. -/
theorem read3 (x : Vec F S32x1 .f32) :
    View.read (Elt F) (View.whole cc0_scratch3) ((Memref.isWhole_whole cc0_scratch3).unread x) = x :=
  (Memref.isWhole_whole cc0_scratch3).read_unread x

/-- The same for the activity. -/
theorem read4 (x : Vec F S32x1 .f32) :
    View.read (Elt F) (View.whole cc0_scratch4) ((Memref.isWhole_whole cc0_scratch4).unread x) = x :=
  (Memref.isWhole_whole cc0_scratch4).read_unread x

/-- Inside a layer a point changes the accumulator only. -/
theorem at_B (t : Fin cfg0.N) (h0 : ¬t.val % 32 = 0) (h1 : ¬t.val % 16 = 0) (h2 : ¬t.val % 16 = 15) :
    acc m c t = add m c t (cur m c (prev t)) (gate m c (prev t)) (acc m c (prev t))
    ∧ cur m c t = cur m c (prev t) ∧ gate m c t = gate m c (prev t) ∧ out m c t = out m c (prev t)
    ∧ nupd m c t = nupd m c (prev t) ∧ rem m c t = rem m c (prev t) ∧ depth m c t = depth m c (prev t)
    ∧ hp m c t = hp m c (prev t) ∧ act m c t = act m c (prev t) := by
  unfold acc cur gate out nupd rem depth hp act
  rw [outsAt0_B m c t h0 h1 h2]
  refine ⟨?_, rfl, rfl, rfl, rfl, rfl, rfl, rfl, rfl⟩
  · unfold sout0_B_1
    rw [View.read_writes_eq_canon _ _ _ (fun _ => scover0_B_1 ..)]
    unfold kernelRun0_B
    dsimp only
    sl_unfold_words
    simp only [View.canon_cons_unit_zero (S := S32x1024) zero2, View.canon_cons_unit_zero (S := S32x16) zero2,
      View.canon_cons_unit_zero (S := S32x1) zero2,
      View.readCov_unit_zero (S := S32x1024) _ zero2,
      View.readCov_unit_zero (S := S32x16) _ zero2, View.readCov_unit_zero (S := S32x1) _ zero2, View.readAt_eq_ld, Memref.IsWhole.read_unread, read0, read1, read2, read3, read4,
      View.ld_unit_zero (S := S32x1024) zero2, View.ld_unit_zero (S := S32x16) zero2, View.ld_unit_zero (S := S32x1) zero2,
      View.ld_unit_zero (S := S1x1024x16) zero3, View.ld_unit_zero (S := S1x1x16) zero3,
      View.ld_unit_zero (S := S1x1024x1) zero3, View.ld_unit_zero (S := S1x1x1) zero3,
      View.ld_unit_zero (S := S1x1x1x1024) zero4, View.ld_unit_zero (S := S1x1x1024x256) zero4,
      View.ld_unit_zero (S := S1x1x256x1024) zero4]
    rfl

/-- The first point of a later layer makes the gate and starts the accumulator afresh. -/
theorem at_D (t : Fin cfg0.N) (h0 : ¬t.val % 32 = 0) (h1 : t.val % 16 = 0) (h2 : ¬t.val % 16 = 15) :
    acc m c t = add m c t (cur m c (prev t)) (gate m c t) k0_pay23
    ∧ gate m c t = k0_pay22 (cur m c (prev t)) (iblk m c 1 t) (iblk m c 2 t)
    ∧ cur m c t = cur m c (prev t) ∧ out m c t = out m c (prev t)
    ∧ nupd m c t = nupd m c (prev t) ∧ rem m c t = rem m c (prev t) ∧ depth m c t = depth m c (prev t)
    ∧ hp m c t = hp m c (prev t) ∧ act m c t = act m c (prev t) := by
  have hg : gate m c t = k0_pay22 (cur m c (prev t)) (iblk m c 1 t) (iblk m c 2 t) := by
    unfold gate cur
    rw [outsAt0_D m c t h0 h1 h2]
    dsimp only
    unfold sout0_D_2
    rw [View.read_writes_eq_canon _ _ _ (fun _ => scover0_D_2 ..)]
    unfold kernelRun0_D
    dsimp only
    sl_unfold_words
    simp only [View.canon_cons_unit_zero (S := S32x1024) zero2, View.canon_cons_unit_zero (S := S32x16) zero2,
      View.canon_cons_unit_zero (S := S32x1) zero2,
      View.readCov_unit_zero (S := S32x1024) _ zero2,
      View.readCov_unit_zero (S := S32x16) _ zero2, View.readCov_unit_zero (S := S32x1) _ zero2, View.readAt_eq_ld, Memref.IsWhole.read_unread, read0, read1, read2, read3, read4,
      View.ld_unit_zero (S := S32x1024) zero2, View.ld_unit_zero (S := S32x16) zero2, View.ld_unit_zero (S := S32x1) zero2,
      View.ld_unit_zero (S := S1x1024x16) zero3, View.ld_unit_zero (S := S1x1x16) zero3,
      View.ld_unit_zero (S := S1x1024x1) zero3, View.ld_unit_zero (S := S1x1x1) zero3,
      View.ld_unit_zero (S := S1x1x1x1024) zero4, View.ld_unit_zero (S := S1x1x1024x256) zero4,
      View.ld_unit_zero (S := S1x1x256x1024) zero4]
  rw [hg]
  unfold acc cur out nupd rem depth hp act
  rw [outsAt0_D m c t h0 h1 h2]
  refine ⟨?_, rfl, rfl, rfl, rfl, rfl, rfl, rfl, rfl⟩
  · unfold sout0_D_1
    rw [View.read_writes_eq_canon _ _ _ (fun _ => scover0_D_1 ..)]
    unfold kernelRun0_D
    dsimp only
    sl_unfold_words
    simp only [View.canon_cons_unit_zero (S := S32x1024) zero2, View.canon_cons_unit_zero (S := S32x16) zero2,
      View.canon_cons_unit_zero (S := S32x1) zero2,
      View.readCov_unit_zero (S := S32x1024) _ zero2,
      View.readCov_unit_zero (S := S32x16) _ zero2, View.readCov_unit_zero (S := S32x1) _ zero2, View.readAt_eq_ld, Memref.IsWhole.read_unread, read0, read1, read2, read3, read4,
      View.ld_unit_zero (S := S32x1024) zero2, View.ld_unit_zero (S := S32x16) zero2, View.ld_unit_zero (S := S32x1) zero2,
      View.ld_unit_zero (S := S1x1024x16) zero3, View.ld_unit_zero (S := S1x1x16) zero3,
      View.ld_unit_zero (S := S1x1024x1) zero3, View.ld_unit_zero (S := S1x1x1) zero3,
      View.ld_unit_zero (S := S1x1x1x1024) zero4, View.ld_unit_zero (S := S1x1x1024x256) zero4,
      View.ld_unit_zero (S := S1x1x256x1024) zero4]
    rfl

set_option maxHeartbeats 4000000 in
/-- The very first point also takes the samples as the first layer's input and starts the state. -/
theorem at_A (t : Fin cfg0.N) (h0 : t.val % 32 = 0) (h1 : t.val % 16 = 0) (h2 : ¬t.val % 16 = 15) :
    acc m c t = add m c t (k0_pay15 (iblk m c 0 t)) (k0_pay22 (k0_pay15 (iblk m c 0 t)) (iblk m c 1 t) (iblk m c 2 t)) k0_pay23
    ∧ gate m c t = k0_pay22 (k0_pay15 (iblk m c 0 t)) (iblk m c 1 t) (iblk m c 2 t)
    ∧ cur m c t = k0_pay15 (iblk m c 0 t) ∧ out m c t = k0_pay16
    ∧ nupd m c t = k0_pay17 ∧ rem m c t = k0_pay18 ∧ depth m c t = k0_pay19
    ∧ hp m c t = k0_pay20 ∧ act m c t = k0_pay21 := by
  unfold acc cur gate out nupd rem depth hp act
  rw [outsAt0_A m c t h0 h1 h2]
  dsimp only
  refine ⟨?_, ?_, ?_, ?_, ?_, ?_, ?_, ?_, ?_⟩
  on_goal 1 =>
    unfold sout0_A_1
    rw [View.read_writes_eq_canon _ _ _ (fun _ => scover0_A_1 ..)]
  on_goal 2 =>
    unfold sout0_A_2
    rw [View.read_writes_eq_canon _ _ _ (fun _ => scover0_A_2 ..)]
  on_goal 3 =>
    unfold sout0_A_0
    rw [View.read_writes_eq_canon _ _ _ (fun _ => scover0_A_0 ..)]
  on_goal 4 =>
    unfold out0_A_15
    rw [View.read_writes_eq_canon _ _ _ (fun _ => cover0_A_15 ..)]
  on_goal 5 =>
    unfold out0_A_16
    rw [View.read_writes_eq_canon _ _ _ (fun _ => cover0_A_16 ..)]
  on_goal 6 =>
    unfold out0_A_17
    rw [View.read_writes_eq_canon _ _ _ (fun _ => cover0_A_17 ..)]
  on_goal 7 =>
    unfold out0_A_18
    rw [View.read_writes_eq_canon _ _ _ (fun _ => cover0_A_18 ..)]
  on_goal 8 =>
    unfold sout0_A_3
    rw [View.read_writes_eq_canon _ _ _ (fun _ => scover0_A_3 ..)]
  on_goal 9 =>
    unfold sout0_A_4
    rw [View.read_writes_eq_canon _ _ _ (fun _ => scover0_A_4 ..)]
  all_goals unfold kernelRun0_A
  all_goals dsimp only
  all_goals sl_unfold_words
  all_goals simp only [View.canon_cons_unit_zero (S := S32x1024) zero2, View.canon_cons_unit_zero (S := S32x16) zero2,
    View.canon_cons_unit_zero (S := S32x1) zero2,
    View.readCov_unit_zero (S := S32x1024) _ zero2,
    View.readCov_unit_zero (S := S32x16) _ zero2, View.readCov_unit_zero (S := S32x1) _ zero2, View.readAt_eq_ld, Memref.IsWhole.read_unread, read0, read1, read2, read3, read4,
    View.ld_unit_zero (S := S32x1024) zero2, View.ld_unit_zero (S := S32x16) zero2, View.ld_unit_zero (S := S32x1) zero2,
    View.ld_unit_zero (S := S1x1024x16) zero3, View.ld_unit_zero (S := S1x1x16) zero3,
    View.ld_unit_zero (S := S1x1024x1) zero3, View.ld_unit_zero (S := S1x1x1) zero3,
    View.ld_unit_zero (S := S1x1x1x1024) zero4, View.ld_unit_zero (S := S1x1x1024x256) zero4,
    View.ld_unit_zero (S := S1x1x256x1024) zero4]
  all_goals rfl

set_option maxHeartbeats 4000000 in
/-- The last point of a layer adds its expert and then runs the halting step on the layer's output. -/
theorem at_C (t : Fin cfg0.N) (h0 : ¬t.val % 32 = 0) (h1 : ¬t.val % 16 = 0) (h2 : t.val % 16 = 15) :
    acc m c t = add m c t (cur m c (prev t)) (gate m c (prev t)) (acc m c (prev t))
    ∧ out m c t = k0_pay10 (k0_pay8 (cur m c (prev t)) (iblk m c 13 t) (iblk m c 14 t) (act m c (prev t)) (hp m c (prev t)))
        (out m c (prev t)) (add m c t (cur m c (prev t)) (gate m c (prev t)) (acc m c (prev t)))
    ∧ nupd m c t = k0_pay12 (k0_pay8 (cur m c (prev t)) (iblk m c 13 t) (iblk m c 14 t) (act m c (prev t)) (hp m c (prev t)))
        (nupd m c (prev t))
    ∧ rem m c t = k0_pay9 (cur m c (prev t)) (iblk m c 13 t) (iblk m c 14 t) (act m c (prev t)) (hp m c (prev t)) (rem m c (prev t))
    ∧ depth m c t = k0_pay11 (act m c (prev t)) (depth m c (prev t))
    ∧ hp m c t = k0_pay13 (k0_pay7 (cur m c (prev t)) (iblk m c 13 t) (iblk m c 14 t) (act m c (prev t)) (hp m c (prev t)))
    ∧ act m c t = k0_pay14 (k0_pay7 (cur m c (prev t)) (iblk m c 13 t) (iblk m c 14 t) (act m c (prev t)) (hp m c (prev t)))
    ∧ cur m c t = k0_pay2 (k0_pay10 (k0_pay8 (cur m c (prev t)) (iblk m c 13 t) (iblk m c 14 t) (act m c (prev t)) (hp m c (prev t)))
        (out m c (prev t)) (add m c t (cur m c (prev t)) (gate m c (prev t)) (acc m c (prev t)))) := by
  unfold acc cur gate out nupd rem depth hp act
  rw [outsAt0_C m c t h0 h1 h2]
  dsimp only
  refine ⟨?_, ?_, ?_, ?_, ?_, ?_, ?_, ?_⟩
  on_goal 1 =>
    unfold sout0_C_1
    rw [View.read_writes_eq_canon _ _ _ (fun _ => scover0_C_1 ..)]
  on_goal 2 =>
    unfold out0_C_15
    rw [View.read_writes_eq_canon _ _ _ (fun _ => cover0_C_15 ..)]
  on_goal 3 =>
    unfold out0_C_16
    rw [View.read_writes_eq_canon _ _ _ (fun _ => cover0_C_16 ..)]
  on_goal 4 =>
    unfold out0_C_17
    rw [View.read_writes_eq_canon _ _ _ (fun _ => cover0_C_17 ..)]
  on_goal 5 =>
    unfold out0_C_18
    rw [View.read_writes_eq_canon _ _ _ (fun _ => cover0_C_18 ..)]
  on_goal 6 =>
    unfold sout0_C_3
    rw [View.read_writes_eq_canon _ _ _ (fun _ => scover0_C_3 ..)]
  on_goal 7 =>
    unfold sout0_C_4
    rw [View.read_writes_eq_canon _ _ _ (fun _ => scover0_C_4 ..)]
  on_goal 8 =>
    unfold sout0_C_0
    rw [View.read_writes_eq_canon _ _ _ (fun _ => scover0_C_0 ..)]
  all_goals unfold kernelRun0_C
  all_goals dsimp only
  all_goals sl_unfold_words
  all_goals simp only [View.canon_cons_unit_zero (S := S32x1024) zero2, View.canon_cons_unit_zero (S := S32x16) zero2,
    View.canon_cons_unit_zero (S := S32x1) zero2,
    View.readCov_unit_zero (S := S32x1024) _ zero2,
    View.readCov_unit_zero (S := S32x16) _ zero2, View.readCov_unit_zero (S := S32x1) _ zero2, View.readAt_eq_ld, Memref.IsWhole.read_unread, read0, read1, read2, read3, read4,
    View.ld_unit_zero (S := S32x1024) zero2, View.ld_unit_zero (S := S32x16) zero2, View.ld_unit_zero (S := S32x1) zero2,
    View.ld_unit_zero (S := S1x1024x16) zero3, View.ld_unit_zero (S := S1x1x16) zero3,
    View.ld_unit_zero (S := S1x1024x1) zero3, View.ld_unit_zero (S := S1x1x1) zero3,
    View.ld_unit_zero (S := S1x1x1x1024) zero4, View.ld_unit_zero (S := S1x1x1024x256) zero4,
    View.ld_unit_zero (S := S1x1x256x1024) zero4]
  all_goals rfl

end Cert.KernelIdeal.Step
-- ==== Proof.KernelValue.lean ====
/-
  What the grid computes: after each layer's last expert, row `r` of the buffers is the state that `Spec` gives.

  Inside a layer the accumulator holds the weighed outputs of the experts run so far, and everything else stays. The
  induction runs over the experts of a layer, never over the points one by one.
-/
module

public import proofs.«01_k».proof.Proof.Step

@[expose] public section

set_option maxRecDepth 16384

noncomputable section

namespace Cert.KernelIdeal.Value

open Cert.KernelIdeal Cert.KernelIdeal.Gen Cert.KernelIdeal.Payload Cert.KernelIdeal.Blocks Cert.KernelIdeal.Step
open Idealize.ShloMosaic Idealize.ShloMosaic.TcCoe

variable (m : (ℓ : Loc nD τ sig) → Buf (Elt Ideal) ℓ) (c : Dev nD)

/-- The layers' parameters in the launch memory. -/
abbrev prm (s : Fin 2) : Spec.Layer :=
  Spec.params (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) s

/-- Sample `r` in the launch memory. -/
abbrev sample (r : Fin 32) : Fin 1024 → EReal := Spec.row (m ((c : Thread nD τ).loc main_arg0)) r

/-- A point adds its expert's weighed output to the accumulator. -/
theorem add_apply (t : Fin cfg0.N) (x : Vec Ideal S32x1024 .f32) (g : Vec Ideal S32x16 .f32)
    (a : Vec Ideal S32x1024 .f32) (r : Fin 32) (o : Fin 1024) : add m c t x g a (ix2 r o)
      = a (ix2 r o) + g (ix2 r (expert t)) * Spec.expert (prm m c (layer t)) (fun d => x (ix2 r d)) (expert t) o := by
  unfold add
  rw [coord_expert]
  exact step_apply (prm m c (layer t)) (expert t) x _ _ _ _ _ _ _ _ _ _ g a
    (b1_apply m c t) (b2_apply m c t) (w1_0_apply m c t) (w1_1_apply m c t) (w1_2_apply m c t) (w1_3_apply m c t)
    (w2_0_apply m c t) (w2_1_apply m c t) (w2_2_apply m c t) (w2_3_apply m c t) r o

/-- The gate a layer's first point makes. -/
theorem gate_eq (t : Fin cfg0.N) (x : Vec Ideal S32x1024 .f32) (r : Fin 32) (e : Fin 16) :
    k0_pay22 x (iblk m c 1 t) (iblk m c 2 t) (ix2 r e)
      = Spec.gate (prm m c (layer t)) (fun d => x (ix2 r d)) e := by
  refine (gate_apply x _ _ r e).trans ?_
  simp only [wg_apply m c t, bg_apply m c t]
  rfl

/-- The halting probability a layer's last point makes. -/
theorem prob_eq (t : Fin cfg0.N) (x : Vec Ideal S32x1024 .f32) (r : Fin 32) :
    k0_pay3 x (iblk m c 13 t) (iblk m c 14 t) (ix2 r 0)
      = Spec.prob (prm m c (layer t)) (fun d => x (ix2 r d)) := by
  refine (prob_apply x _ _ r).trans ?_
  simp only [wh_apply m c t, bh_apply m c t]
  rfl

/-- Row `r` of the buffers after point `t` is the state `S`. -/
structure At (S : Spec.State) (t : Fin cfg0.N) (r : Fin 32) : Prop where
  out : ∀ o, out m c t (ix2 r o) = S.out o
  nupd : nupd m c t (ix2 r 0) = S.nupd
  rem : rem m c t (ix2 r 0) = S.rem
  depth : depth m c t (ix2 r 0) = S.depth
  hp : hp m c t (ix2 r 0) = S.hp
  act : act m c t (ix2 r 0) = S.act

/-- The weighed outputs of the first `n` experts. -/
def partialMix (L : Spec.Layer) (x : Fin 1024 → EReal) (n : ℕ) (o : Fin 1024) : EReal :=
  ∑ k ∈ Finset.range n, Spec.gate L x (Fin.ofNat 16 k) * Spec.expert L x (Fin.ofNat 16 k) o

/-- All sixteen are the layer's output. -/
theorem partialMix_all (L : Spec.Layer) (x : Fin 1024 → EReal) (o : Fin 1024) :
    partialMix L x 16 o = Spec.mix L x o := by
  have h (k : Fin 16) : Fin.ofNat 16 k.val = k := Fin.ext (Nat.mod_eq_of_lt k.isLt)
  unfold partialMix Spec.mix
  rw [Finset.sum_range]
  simp only [h]

/-- Row `r` after a point inside a layer: the input `x`, its gate, the experts run so far, the state as before. -/
structure Mid (x : Fin 1024 → EReal) (S : Spec.State) (t : Fin cfg0.N) (r : Fin 32) : Prop where
  cur : ∀ d, cur m c t (ix2 r d) = x d
  gate : ∀ e, gate m c t (ix2 r e) = Spec.gate (prm m c (layer t)) x e
  acc : ∀ o, acc m c t (ix2 r o) = partialMix (prm m c (layer t)) x (t.val % 16 + 1) o
  state : At m c S t r

/-- The first expert alone. -/
theorem first_sum (t : Fin cfg0.N) (h1 : t.val % 16 = 0) (L : Spec.Layer) (x : Fin 1024 → EReal) (o : Fin 1024) :
    0 + Spec.gate L x (expert t) * Spec.expert L x (expert t) o = partialMix L x (t.val % 16 + 1) o := by
  have e : expert t = Fin.ofNat 16 0 := Fin.ext h1
  unfold partialMix
  rw [e, h1, Finset.sum_range_one, zero_add]

/-- One expert more. -/
theorem next_sum (t : Fin cfg0.N) (h1 : ¬t.val % 16 = 0) (L : Spec.Layer) (x : Fin 1024 → EReal) (o : Fin 1024) :
    partialMix L x ((prev t).val % 16 + 1) o + Spec.gate L x (expert t) * Spec.expert L x (expert t) o
      = partialMix L x (t.val % 16 + 1) o := by
  have e : expert t = Fin.ofNat 16 (t.val % 16) := Fin.ext (Nat.mod_mod _ _).symm
  have p : (prev t).val % 16 + 1 = t.val % 16 := by show (t.val - 1) % 16 + 1 = _; omega
  unfold partialMix
  rw [e, p, Finset.sum_range_succ]

/-- A later expert's point is in the layer of the point before. -/
theorem layer_prev (t : Fin cfg0.N) (h1 : ¬t.val % 16 = 0) : layer (prev t) = layer t := by
  apply Fin.ext
  show (t.val - 1) / 16 = t.val / 16
  omega

/-- After the very first point. -/
theorem mid_A (t : Fin cfg0.N) (h0 : t.val % 32 = 0) (r : Fin 32) : Mid m c (sample m c r) Spec.start t r := by
  have h1 : t.val % 16 = 0 := by omega
  obtain ⟨ha, hg, hc, ho, hn, hr, hd, hh, hx⟩ := at_A m c t h0 h1 (by omega)
  have x (d : Fin 1024) : (k0_pay15 (iblk m c 0 t) : Vec Ideal S32x1024 .f32) (ix2 r d) = sample m c r d :=
    (congrFun (input_eq _) _).trans (x_apply m c t r d)
  have g (e : Fin 16) := gate_eq m c t (k0_pay15 (iblk m c 0 t)) r e
  simp only [x] at g
  refine ⟨fun d => (congrFun hc _).trans (x d), fun e => (congrFun hg _).trans (g e), fun o => ?_, ?_⟩
  · refine (congrFun ha _).trans ?_
    rw [add_apply, acc0_apply, g]
    simp only [x]
    exact first_sum t h1 _ _ o
  · exact ⟨fun o => (congrFun ho _).trans (out0_apply r o), (congrFun hn _).trans (nupd0_apply r),
      (congrFun hr _).trans (rem0_apply r), (congrFun hd _).trans (depth0_apply r),
      (congrFun hh _).trans (hp0_apply r), (congrFun hx _).trans (act0_apply r)⟩

/-- After the first point of a later layer. -/
theorem mid_D (t : Fin cfg0.N) (h0 : ¬t.val % 32 = 0) (h1 : t.val % 16 = 0) (x : Fin 1024 → EReal) (S : Spec.State)
    (r : Fin 32) (hx : ∀ d, cur m c (prev t) (ix2 r d) = x d) (hS : At m c S (prev t) r) : Mid m c x S t r := by
  obtain ⟨ha, hg, hc, ho, hn, hr, hd, hh, hk⟩ := at_D m c t h0 h1 (by omega)
  have g (e : Fin 16) := gate_eq m c t (cur m c (prev t)) r e
  simp only [hx] at g
  have g' (e : Fin 16) : gate m c t (ix2 r e) = _ := (congrFun hg _).trans (g e)
  refine ⟨fun d => (congrFun hc _).trans (hx d), g', fun o => ?_, ?_⟩
  · refine (congrFun ha _).trans ?_
    rw [add_apply, acc0_apply, g']
    simp only [hx]
    exact first_sum t h1 _ _ o
  · exact ⟨fun o => (congrFun ho _).trans (hS.out o), (congrFun hn _).trans hS.nupd,
      (congrFun hr _).trans hS.rem, (congrFun hd _).trans hS.depth,
      (congrFun hh _).trans hS.hp, (congrFun hk _).trans hS.act⟩

/-- The accumulator after a later expert's point. -/
theorem acc_next (t : Fin cfg0.N) (h1 : ¬t.val % 16 = 0) (x : Fin 1024 → EReal) (S : Spec.State) (r : Fin 32)
    (h : Mid m c x S (prev t) r) (o : Fin 1024) :
    add m c t (cur m c (prev t)) (gate m c (prev t)) (acc m c (prev t)) (ix2 r o)
      = partialMix (prm m c (layer t)) x (t.val % 16 + 1) o := by
  rw [add_apply, h.acc, h.gate, layer_prev t h1]
  simp only [h.cur]
  exact next_sum t h1 _ _ o

/-- After a later expert's point. -/
theorem mid_B (t : Fin cfg0.N) (h1 : ¬t.val % 16 = 0) (h2 : ¬t.val % 16 = 15) (x : Fin 1024 → EReal) (S : Spec.State)
    (r : Fin 32) (h : Mid m c x S (prev t) r) : Mid m c x S t r := by
  obtain ⟨ha, hc, hg, ho, hn, hr, hd, hh, hk⟩ := at_B m c t (by omega) h1 h2
  refine ⟨fun d => (congrFun hc _).trans (h.cur d), fun e => ?_, fun o => ?_, ?_⟩
  · rw [← layer_prev t h1]
    exact (congrFun hg _).trans (h.gate e)
  · exact (congrFun ha _).trans (acc_next m c t h1 x S r h o)
  · have hS := h.state
    exact ⟨fun o => (congrFun ho _).trans (hS.out o), (congrFun hn _).trans hS.nupd,
      (congrFun hr _).trans hS.rem, (congrFun hd _).trans hS.depth,
      (congrFun hh _).trans hS.hp, (congrFun hk _).trans hS.act⟩

/-- After a layer's last point: the layer has been run, and its output is the next input. -/
theorem done_C (t : Fin cfg0.N) (h2 : t.val % 16 = 15) (x : Fin 1024 → EReal) (S : Spec.State)
    (r : Fin 32) (h : Mid m c x S (prev t) r) :
    At m c (Spec.layer (prm m c (layer t)) x S) t r
      ∧ ∀ d, cur m c t (ix2 r d) = (Spec.layer (prm m c (layer t)) x S).out d := by
  have h1 : ¬t.val % 16 = 0 := by omega
  obtain ⟨-, ho, hn, hr, hd, hh, hk, hc⟩ := at_C m c t (by omega) h1 h2
  have hS := h.state
  have p := prob_eq m c t (cur m c (prev t)) r
  simp only [h.cur] at p
  have a (o : Fin 1024) := (acc_next m c t h1 x S r h o).trans
    ((congrArg (fun n => partialMix _ x n o) (by rw [h2])).trans (partialMix_all _ _ _))
  have out' (o : Fin 1024) : out m c t (ix2 r o) = (Spec.layer (prm m c (layer t)) x S).out o := by
    refine (congrFun ho _).trans ?_
    rw [out_apply, weight_apply, p, a, hS.out, hS.hp, hS.act]
    rfl
  refine ⟨⟨out', ?_, ?_, ?_, ?_, ?_⟩, fun d => ?_⟩
  · refine (congrFun hn _).trans ?_
    rw [nupd_apply, weight_apply, p, hS.nupd, hS.hp, hS.act]
    rfl
  · refine (congrFun hr _).trans ?_
    rw [rem_apply, p, hS.rem, hS.hp, hS.act]
    rfl
  · refine (congrFun hd _).trans ?_
    rw [depth_apply, hS.depth, hS.act]
    rfl
  · refine (congrFun hh _).trans ?_
    rw [hp_eq, hpNext_apply, p, hS.hp, hS.act]
    rfl
  · refine (congrFun hk _).trans ?_
    rw [act_apply, hpNext_apply, p, hS.hp, hS.act]
    rfl
  · refine (congrFun hc _).trans ?_
    rw [next_eq, ← ho]
    exact out' d

/-- Grid point `n`. -/
abbrev pt (n : ℕ) (h : n < 32) : Fin cfg0.N := ⟨n, lt_of_lt_of_eq h N_0.symm⟩

/-- The points of layer `s` but the last, by induction over the experts. -/
theorem mid_layer (s : Fin 2) (x : Fin 1024 → EReal) (S : Spec.State) (r : Fin 32)
    (h : Mid m c x S (pt (16 * s.val) (by omega)) r) :
    ∀ (e : ℕ) (he : e < 15), Mid m c x S (pt (16 * s.val + e) (by omega)) r
  | 0, _ => h
  | e + 1, he => mid_B m c (pt (16 * s.val + (e + 1)) (by omega)) (by show ¬(16 * s.val + (e + 1)) % 16 = 0; omega)
      (by show ¬(16 * s.val + (e + 1)) % 16 = 15; omega) x S r (mid_layer s x S r h e (by omega))

/-- A layer's last point. -/
theorem done_layer (s : Fin 2) (x : Fin 1024 → EReal) (S : Spec.State) (r : Fin 32)
    (h : Mid m c x S (pt (16 * s.val) (by omega)) r) :
    At m c (Spec.layer (prm m c s) x S) (pt (16 * s.val + 15) (by omega)) r
      ∧ ∀ d, cur m c (pt (16 * s.val + 15) (by omega)) (ix2 r d) = (Spec.layer (prm m c s) x S).out d := by
  have e : layer (pt (16 * s.val + 15) (by omega)) = s := by
    apply Fin.ext
    show (16 * s.val + 15) / 16 = s.val
    omega
  have d := done_C m c (pt (16 * s.val + 15) (by omega)) (by show (16 * s.val + 15) % 16 = 15; omega) x S r
    (mid_layer m c s x S r h 14 (by omega))
  rw [e] at d
  exact d

/-- After the grid's last point, row `r` holds the state after both layers. -/
theorem at_last (r : Fin 32) : At m c (Spec.after2 (prm m c) (sample m c r)) (pt 31 (by omega)) r := by
  have d0 := done_layer m c 0 (sample m c r) Spec.start r (mid_A m c (pt 0 (by omega)) rfl r)
  have h1 := mid_D m c (pt 16 (by omega)) (by decide) rfl _ _ r d0.2 d0.1
  exact (done_layer m c 1 _ _ r h1).1

end Cert.KernelIdeal.Value
-- ==== Proof.KernelRun.lean ====
/-
  The run of the kernel: every result as what the grid's last point leaves.

  Each output block is its whole array and is written back after the last point only, so the array ends at the block's
  contents there. The lines after the grid drop the last axis of the three counters.
-/
module

public import proofs.«01_k».proof.Proof.KernelValue
public import Idealize.ShloMosaic.Lib.Pointwise
public import Idealize.ShloMosaic.Lib.Claim

@[expose] public section

set_option maxRecDepth 16384

noncomputable section

namespace Cert.KernelIdeal.Value

open Cert.KernelIdeal Cert.KernelIdeal.Gen Cert.KernelIdeal.Blocks Cert.KernelIdeal.Step
open Idealize.ShloMosaic Idealize.ShloMosaic.TcCoe Idealize.SL.Sem

variable {F : FTy → Type} [FloatOps F]
variable (m : (ℓ : Loc nD τ sig) → Buf (Elt F) ℓ) (c : Dev nD)

/-- The grid's last point. -/
abbrev last : Fin cfg0.N := pt 31 (by omega)

/-- A point after which an output is written back is the last one. -/
theorem eq_last {t : Fin cfg0.N} (h : t.val % 32 = 31) : t = last := by
  have := lt_points t
  exact Fin.ext (by show t.val = 31; omega)

/-! ## The output arrays -/

/-- The mixed output's block at the last point is the whole array. -/
theorem block_out (v : Vec F S32x1024 .f32) :
    (cfg0.win 15).cut (grid0.coords last) v = ((cfg0.win 15).blk last).view.read (Elt F) v := by
  have hz : (fun a => win0_15.index last a * main_v0_0.ty.shape.size a) = fun _ => 0 :=
    funext fun a => by fin_cases a <;> decide
  exact (Memref.read_access_unit_zero (Elt F) main_v0_0 hz (fun a => by rw [congrFun hz a]; simp) v).symm

/-- The mixed output's array ends at what its block holds after the last point. -/
theorem arr_out (v : Vec F S32x1024 .f32) (hv : (dats m 0 c).after 15 last = v) : (dats m 0 c).arrAt 15 cfg0.N = v := by
  refine (dats m 0 c).arrAt_eq_of_cover 15 v (fun t hf => ?_) fun i => ⟨last, (flush0_15 last).mpr rfl, ?_⟩
  · rw [eq_last ((flush0_15 t).mp hf)]
    show (cfg0.win 15).cut (grid0.coords last) ((dats m 0 c).after 15 last) = _
    rw [hv]
    exact block_out v
  · show i ∈ ((View.whole main_v0_0).slice (win0_15.rect last)).set
    rw [View.set_slice_whole, Rect.mem_set_unit]
    intro a
    have hi := (i a).isLt
    fin_cases a
    · show win0_15.index last 0 * win0_15.size 0 ≤ (i 0 : Nat)
        ∧ (i 0 : Nat) < win0_15.index last 0 * win0_15.size 0 + win0_15.xsize (grid0.coords last) 0
      rw [show win0_15.index last 0 * win0_15.size 0 = 0 from by decide +kernel,
        show win0_15.xsize (grid0.coords last) 0 = 32 from by decide +kernel]
      exact ⟨Nat.zero_le _, by rw [Nat.zero_add]; exact hi⟩
    · show win0_15.index last 1 * win0_15.size 1 ≤ (i 1 : Nat)
        ∧ (i 1 : Nat) < win0_15.index last 1 * win0_15.size 1 + win0_15.xsize (grid0.coords last) 1
      rw [show win0_15.index last 1 * win0_15.size 1 = 0 from by decide +kernel,
        show win0_15.xsize (grid0.coords last) 1 = 1024 from by decide +kernel]
      exact ⟨Nat.zero_le _, by rw [Nat.zero_add]; exact hi⟩

/-- The mixed output's array after the grid. -/
theorem final_out (t : Fin cfg0.N) (ht : t = last) : (dats m 0 c).arrAt 15 cfg0.N = out m c t :=
  arr_out m c (out m c t) (ht ▸ after0_15 m c t)

/-- The update counts' block at the last point is the whole array. -/
theorem block_nupd (v : Vec F S32x1 .f32) :
    (cfg0.win 16).cut (grid0.coords last) v = ((cfg0.win 16).blk last).view.read (Elt F) v := by
  have hz : (fun a => win0_16.index last a * main_call0_v4_1.ty.shape.size a) = fun _ => 0 :=
    funext fun a => by fin_cases a <;> decide
  exact (Memref.read_access_unit_zero (Elt F) main_call0_v4_1 hz (fun a => by rw [congrFun hz a]; simp) v).symm

/-- The update counts' array ends at what its block holds after the last point. -/
theorem arr_nupd (v : Vec F S32x1 .f32) (hv : (dats m 0 c).after 16 last = v) : (dats m 0 c).arrAt 16 cfg0.N = v := by
  refine (dats m 0 c).arrAt_eq_of_cover 16 v (fun t hf => ?_) fun i => ⟨last, (flush0_16 last).mpr rfl, ?_⟩
  · rw [eq_last ((flush0_16 t).mp hf)]
    show (cfg0.win 16).cut (grid0.coords last) ((dats m 0 c).after 16 last) = _
    rw [hv]
    exact block_nupd v
  · show i ∈ ((View.whole main_call0_v4_1).slice (win0_16.rect last)).set
    rw [View.set_slice_whole, Rect.mem_set_unit]
    intro a
    have hi := (i a).isLt
    fin_cases a
    · show win0_16.index last 0 * win0_16.size 0 ≤ (i 0 : Nat)
        ∧ (i 0 : Nat) < win0_16.index last 0 * win0_16.size 0 + win0_16.xsize (grid0.coords last) 0
      rw [show win0_16.index last 0 * win0_16.size 0 = 0 from by decide +kernel,
        show win0_16.xsize (grid0.coords last) 0 = 32 from by decide +kernel]
      exact ⟨Nat.zero_le _, by rw [Nat.zero_add]; exact hi⟩
    · show win0_16.index last 1 * win0_16.size 1 ≤ (i 1 : Nat)
        ∧ (i 1 : Nat) < win0_16.index last 1 * win0_16.size 1 + win0_16.xsize (grid0.coords last) 1
      rw [show win0_16.index last 1 * win0_16.size 1 = 0 from by decide +kernel,
        show win0_16.xsize (grid0.coords last) 1 = 1 from by decide +kernel]
      exact ⟨Nat.zero_le _, by rw [Nat.zero_add]; exact hi⟩

/-- The update counts' array after the grid. -/
theorem final_nupd (t : Fin cfg0.N) (ht : t = last) : (dats m 0 c).arrAt 16 cfg0.N = nupd m c t :=
  arr_nupd m c (nupd m c t) (ht ▸ after0_16 m c t)

/-- The remainders' block at the last point is the whole array. -/
theorem block_rem (v : Vec F S32x1 .f32) :
    (cfg0.win 17).cut (grid0.coords last) v = ((cfg0.win 17).blk last).view.read (Elt F) v := by
  have hz : (fun a => win0_17.index last a * main_call0_v4_2.ty.shape.size a) = fun _ => 0 :=
    funext fun a => by fin_cases a <;> decide
  exact (Memref.read_access_unit_zero (Elt F) main_call0_v4_2 hz (fun a => by rw [congrFun hz a]; simp) v).symm

/-- The remainders' array ends at what its block holds after the last point. -/
theorem arr_rem (v : Vec F S32x1 .f32) (hv : (dats m 0 c).after 17 last = v) : (dats m 0 c).arrAt 17 cfg0.N = v := by
  refine (dats m 0 c).arrAt_eq_of_cover 17 v (fun t hf => ?_) fun i => ⟨last, (flush0_17 last).mpr rfl, ?_⟩
  · rw [eq_last ((flush0_17 t).mp hf)]
    show (cfg0.win 17).cut (grid0.coords last) ((dats m 0 c).after 17 last) = _
    rw [hv]
    exact block_rem v
  · show i ∈ ((View.whole main_call0_v4_2).slice (win0_17.rect last)).set
    rw [View.set_slice_whole, Rect.mem_set_unit]
    intro a
    have hi := (i a).isLt
    fin_cases a
    · show win0_17.index last 0 * win0_17.size 0 ≤ (i 0 : Nat)
        ∧ (i 0 : Nat) < win0_17.index last 0 * win0_17.size 0 + win0_17.xsize (grid0.coords last) 0
      rw [show win0_17.index last 0 * win0_17.size 0 = 0 from by decide +kernel,
        show win0_17.xsize (grid0.coords last) 0 = 32 from by decide +kernel]
      exact ⟨Nat.zero_le _, by rw [Nat.zero_add]; exact hi⟩
    · show win0_17.index last 1 * win0_17.size 1 ≤ (i 1 : Nat)
        ∧ (i 1 : Nat) < win0_17.index last 1 * win0_17.size 1 + win0_17.xsize (grid0.coords last) 1
      rw [show win0_17.index last 1 * win0_17.size 1 = 0 from by decide +kernel,
        show win0_17.xsize (grid0.coords last) 1 = 1 from by decide +kernel]
      exact ⟨Nat.zero_le _, by rw [Nat.zero_add]; exact hi⟩

/-- The remainders' array after the grid. -/
theorem final_rem (t : Fin cfg0.N) (ht : t = last) : (dats m 0 c).arrAt 17 cfg0.N = rem m c t :=
  arr_rem m c (rem m c t) (ht ▸ after0_17 m c t)

/-- The layer counts' block at the last point is the whole array. -/
theorem block_depth (v : Vec F S32x1 .f32) :
    (cfg0.win 18).cut (grid0.coords last) v = ((cfg0.win 18).blk last).view.read (Elt F) v := by
  have hz : (fun a => win0_18.index last a * main_call0_v4_3.ty.shape.size a) = fun _ => 0 :=
    funext fun a => by fin_cases a <;> decide
  exact (Memref.read_access_unit_zero (Elt F) main_call0_v4_3 hz (fun a => by rw [congrFun hz a]; simp) v).symm

/-- The layer counts' array ends at what its block holds after the last point. -/
theorem arr_depth (v : Vec F S32x1 .f32) (hv : (dats m 0 c).after 18 last = v) : (dats m 0 c).arrAt 18 cfg0.N = v := by
  refine (dats m 0 c).arrAt_eq_of_cover 18 v (fun t hf => ?_) fun i => ⟨last, (flush0_18 last).mpr rfl, ?_⟩
  · rw [eq_last ((flush0_18 t).mp hf)]
    show (cfg0.win 18).cut (grid0.coords last) ((dats m 0 c).after 18 last) = _
    rw [hv]
    exact block_depth v
  · show i ∈ ((View.whole main_call0_v4_3).slice (win0_18.rect last)).set
    rw [View.set_slice_whole, Rect.mem_set_unit]
    intro a
    have hi := (i a).isLt
    fin_cases a
    · show win0_18.index last 0 * win0_18.size 0 ≤ (i 0 : Nat)
        ∧ (i 0 : Nat) < win0_18.index last 0 * win0_18.size 0 + win0_18.xsize (grid0.coords last) 0
      rw [show win0_18.index last 0 * win0_18.size 0 = 0 from by decide +kernel,
        show win0_18.xsize (grid0.coords last) 0 = 32 from by decide +kernel]
      exact ⟨Nat.zero_le _, by rw [Nat.zero_add]; exact hi⟩
    · show win0_18.index last 1 * win0_18.size 1 ≤ (i 1 : Nat)
        ∧ (i 1 : Nat) < win0_18.index last 1 * win0_18.size 1 + win0_18.xsize (grid0.coords last) 1
      rw [show win0_18.index last 1 * win0_18.size 1 = 0 from by decide +kernel,
        show win0_18.xsize (grid0.coords last) 1 = 1 from by decide +kernel]
      exact ⟨Nat.zero_le _, by rw [Nat.zero_add]; exact hi⟩

/-- The layer counts' array after the grid. -/
theorem final_depth (t : Fin cfg0.N) (ht : t = last) : (dats m 0 c).arrAt 18 cfg0.N = depth m c t :=
  arr_depth m c (depth m c t) (ht ▸ after0_18 m c t)

/-! ## The lines after the grid -/

/-- The arrays of the pipeline after the grid, read at window `w`'s array. -/
theorem exit_arr (w : Fin cfg0.W) :
    Pipeline.withArrays spec0 c (V0 m c) (fun w => (dats m 0 c).arrAt w cfg0.N)
      (Proc.devRef .tc (Pipeline.arrRef spec0 w)) = (dats m 0 c).arrAt w cfg0.N :=
  Pipeline.Dat.withArrays_arrAt (dats m 0 c) sharedIn0 (V0 m c) (A_eq m c) w

/-- The update counts' result is the array with its last axis dropped. -/
theorem tail_nupd (t : Fin cfg0.N) (ht : t = last) : Pipeline.afterTail₀ cfgs (dats m) 0 (V0 m) [hostOps1] c main_v0_1
    = shapeCast S32 (nupd m c t) shapeCasts_S32x1_S32 := by
  unfold Pipeline.afterTail₀
  show StableHlo.after hostOps1 (Pipeline.withArrays spec0 c (V0 m c) fun w => (dats m 0 c).arrAt w cfg0.N)
    (Proc.devRef .tc main_v0_1) = _
  after_results
  exact congrArg (fun v => shapeCast S32 v shapeCasts_S32x1_S32) ((exit_arr m c 16).trans (final_nupd m c t ht))

/-- The remainders' result is the array with its last axis dropped. -/
theorem tail_rem (t : Fin cfg0.N) (ht : t = last) : Pipeline.afterTail₀ cfgs (dats m) 0 (V0 m) [hostOps1] c main_v0_2
    = shapeCast S32 (rem m c t) shapeCasts_S32x1_S32 := by
  unfold Pipeline.afterTail₀
  show StableHlo.after hostOps1 (Pipeline.withArrays spec0 c (V0 m c) fun w => (dats m 0 c).arrAt w cfg0.N)
    (Proc.devRef .tc main_v0_2) = _
  after_results
  exact congrArg (fun v => shapeCast S32 v shapeCasts_S32x1_S32) ((exit_arr m c 17).trans (final_rem m c t ht))

/-- The layer counts' result is the array with its last axis dropped. -/
theorem tail_depth (t : Fin cfg0.N) (ht : t = last) : Pipeline.afterTail₀ cfgs (dats m) 0 (V0 m) [hostOps1] c main_v0_3
    = shapeCast S32 (depth m c t) shapeCasts_S32x1_S32 := by
  unfold Pipeline.afterTail₀
  show StableHlo.after hostOps1 (Pipeline.withArrays spec0 c (V0 m c) fun w => (dats m 0 c).arrAt w cfg0.N)
    (Proc.devRef .tc main_v0_3) = _
  after_results
  exact congrArg (fun v => shapeCast S32 v shapeCasts_S32x1_S32) ((exit_arr m c 18).trans (final_depth m c t ht))

/-! ## The run -/

/-- Every run ends with the four results at what the last point `t` leaves, and the arguments unchanged. -/
theorem run (t : Fin cfg0.N) (ht : t = last) (ρ : Dev nD → PrngReg) :
    θ_run defs (onTc (τ := τ) (main (F := F))) ⟨m, fun _ => 0, ρ⟩ fun r => ∀ c : Dev nD,
      r.2.mem ((c.tc : Thread nD τ).loc main_v0_0) = out m c t
      ∧ r.2.mem ((c.tc : Thread nD τ).loc main_v0_1) = shapeCast S32 (nupd m c t) shapeCasts_S32x1_S32
      ∧ r.2.mem ((c.tc : Thread nD τ).loc main_v0_2) = shapeCast S32 (rem m c t) shapeCasts_S32x1_S32
      ∧ r.2.mem ((c.tc : Thread nD τ).loc main_v0_3) = shapeCast S32 (depth m c t) shapeCasts_S32x1_S32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨((h.1 c).1 15).trans (final_out m c t ht),
      ((h.1 c).2 main_v0_1 (Pipeline.mem_restRefs_of main_v0_1 (by decide) (by decide))).trans (tail_nupd m c t ht),
      ((h.1 c).2 main_v0_2 (Pipeline.mem_restRefs_of main_v0_2 (by decide) (by decide))).trans (tail_rem m c t ht),
      ((h.1 c).2 main_v0_3 (Pipeline.mem_restRefs_of main_v0_3 (by decide) (by decide))).trans (tail_depth m c t ht), h.2 c⟩)
    (θ_run_and (run_main m ρ) (unchanged m ρ))

/-- Dropping the last axis keeps the elements. -/
theorem drop_apply (v : Vec F S32x1 .f32) (r : Fin 32) : shapeCast S32 v shapeCasts_S32x1_S32 (ix1 r) = v (ix2 r 0) := by
  pointwise

end Cert.KernelIdeal.Value
-- ==== Proof.RefLayer.lean ====
/-
  One layer of the reference, read row by row.

  The reference writes the same array operations for each of its two layers. They are named here once, as functions of
  the layer's input array and of the layer's parameter arrays, and read at an index over the extended reals as the row
  mathematics of `Spec`.
-/
module

public import proofs.«01_k».proof.Defs
public import proofs.«01_k».proof.Proof.Spec
public import proofs.«01_k».proof.Proof.Gen.ReferenceIdeal
public import Idealize.ShloMosaic.Lib.Pipeline.Value
public import Idealize.ShloMosaic.Lib.Pointwise
public import Idealize.ShloMosaic.Lib.ValueIdx
public import Idealize.ShloMosaic.PureOps.Ideal.Laws

@[expose] public section

set_option maxRecDepth 16384

noncomputable section

namespace Cert.ReferenceIdeal.Layer

open Cert.ReferenceIdeal Cert.ReferenceIdeal.Gen Idealize.ShloMosaic

variable {F : FTy → Type} [FloatOps F]

/-- The gate's logits of an input array, divided by the temperature one. -/
def logits (x : Vec F S32x1024 .f32) (wg : Vec F S1024x16 .f32) (bg : Vec F S16 .f32) : Vec F S32x16 .f32 :=
  Host.divf
    (addf (Host.dotGeneral dot_S32x1024_S1024x16_S32x16_1_0_0_1_n_n none x wg)
      (broadcastInDim S32x16 ![0, 1] bcast_S1x16_S32x16_0_1 (broadcastInDim S1x16 ![1] bcast_S16_S1x16_1 bg)))
    (broadcastInDim S32x16 ![] bcast_S_S32x16 (constant S_ .f32 0x3F800000#32))

/-- The exponentials of a row's entries less their greatest. -/
def exps (l : Vec F S32x16 .f32) : Vec F S32x16 .f32 :=
  Host.exp (subf l (broadcastInDim S32x16 ![0, 1] bcast_S32x1_S32x16_0_1 (broadcastInDim S32x1 ![0] bcast_S32_S32x1_0
    (maximumf (broadcastInDim S32 ![] bcast_S_S32 (constant S_ .f32 0xFF800000#32))
      (Host.reduce FloatOps.maximumf l (constant S_ .f32 0xFF800000#32) reducesTo_S32x16_S32_d1 h_S_)))))

/-- Rows divided by their sums. -/
def normed (y : Vec F S32x16 .f32) : Vec F S32x16 .f32 :=
  Host.divf y (broadcastInDim S32x16 ![0, 1] bcast_S32x1_S32x16_0_1 (broadcastInDim S32x1 ![0] bcast_S32_S32x1_0
    (Host.reduceAdd y (constant S_ .f32 0x00000000#32) reducesTo_S32x16_S32_d1 h_S_)))

/-- The hidden units of all experts. -/
def hiddens (x : Vec F S32x1024 .f32) (w1 : Vec F S16x1024x1024 .f32) (b1 : Vec F S16x1024 .f32) :
    Vec F S32x16x1024 .f32 :=
  maximumf
    (addf (Host.dotGeneral dot_S32x1024_S16x1024x1024_S32x16x1024_1_1_0_02_n_n none x w1)
      (broadcastInDim S32x16x1024 ![0, 1, 2] bcast_S1x16x1024_S32x16x1024_0_1_2
        (broadcastInDim S1x16x1024 ![1, 2] bcast_S16x1024_S1x16x1024_1_2 b1)))
    (broadcastInDim S32x16x1024 ![] bcast_S_S32x16x1024 (constant S_ .f32 0x00000000#32))

/-- The outputs of all experts. -/
def experts (h : Vec F S32x16x1024 .f32) (w2 : Vec F S16x1024x1024 .f32) (b2 : Vec F S16x1024 .f32) :
    Vec F S32x16x1024 .f32 :=
  addf
    (transpose S32x16x1024 [2, 0, 1]
      (Host.dotGeneral dot_S16x1024x1024_S32x16x1024_S16x1024x32_1_2_2_0_0_1 none w2 h)
      transposes_S16x1024x32_S32x16x1024_2_0_1)
    (broadcastInDim S32x16x1024 ![0, 1, 2] bcast_S1x16x1024_S32x16x1024_0_1_2
      (broadcastInDim S1x16x1024 ![1, 2] bcast_S16x1024_S1x16x1024_1_2 b2))

/-- The experts weighed by the gate. -/
def mixes (g : Vec F S32x16 .f32) (y : Vec F S32x16x1024 .f32) : Vec F S32x1024 .f32 :=
  Host.dotGeneral dot_S32x16_S32x16x1024_S32x1024_1_1_n_2_0_0 none g y

/-- The halting probabilities. -/
def probs (x : Vec F S32x1024 .f32) (wh : Vec F S1024x1 .f32) (bh : Vec F S1 .f32) : Vec F S32 .f32 :=
  shapeCast S32
    (Host.divf (broadcastInDim S32x1 ![] bcast_S_S32x1 (constant S_ .f32 0x3F800000#32))
      (addf (broadcastInDim S32x1 ![] bcast_S_S32x1 (constant S_ .f32 0x3F800000#32))
        (Host.exp (Host.negf
          (addf (Host.dotGeneral dot_S32x1024_S1024x1_S32x1_1_0_0_1_n_n none x wh)
            (broadcastInDim S32x1 ![0, 1] bcast_S1x1_S32x1_0_1 (broadcastInDim S1x1 ![1] bcast_S1_S1x1_1 bh)))))))
    shapeCasts_S32x1_S32

/-- One where the probability takes an active sample past the threshold, else zero. -/
def halts (p hp a : Vec F S32 .f32) : Vec F S32 .f32 :=
  mulf (uitofp .f32 (cmpf .oge (addf hp (mulf p a)) (broadcastInDim S32 ![] bcast_S_S32 (constant S_ .f32 0x3F4CCCCD#32)))) a

/-- What a halting sample still lacks to the threshold. -/
def lacks (p hp a : Vec F S32 .f32) : Vec F S32 .f32 :=
  mulf (halts p hp a) (subf (broadcastInDim S32 ![] bcast_S_S32 (constant S_ .f32 0x3F4CCCCD#32)) hp)

/-- The accumulated halting probabilities after the layer. -/
def hpNexts (p hp a : Vec F S32 .f32) : Vec F S32 .f32 :=
  addf (addf hp (mulf p (subf a (halts p hp a)))) (lacks p hp a)

/-- The weights with which the layer's outputs enter. -/
def weights (p hp a : Vec F S32 .f32) : Vec F S32 .f32 :=
  addf (mulf p (subf a (halts p hp a))) (lacks p hp a)

/-- The remainders after the layer. -/
def rems (p hp a rem : Vec F S32 .f32) : Vec F S32 .f32 :=
  addf rem (mulf (halts p hp a)
    (subf (broadcastInDim S32 ![] bcast_S_S32 (constant S_ .f32 0x3F800000#32)) (hpNexts p hp a)))

/-- Whether each sample is still active, as a number. -/
def actives (hp : Vec F S32 .f32) : Vec F S32 .f32 :=
  uitofp .f32 (cmpf .olt hp (broadcastInDim S32 ![] bcast_S_S32 (constant S_ .f32 0x3F4CCCCD#32)))

/-- An array mixed with another, row `r` with weight `w r`. -/
def blend (x y : Vec F S32x1024 .f32) (w : Vec F S32 .f32) : Vec F S32x1024 .f32 :=
  addf
    (mulf x (broadcastInDim S32x1024 ![0, 1] bcast_S32x1_S32x1024_0_1
      (subf (broadcastInDim S32x1 ![] bcast_S_S32x1 (constant S_ .f32 0x3F800000#32))
        (broadcastInDim S32x1 ![0] bcast_S32_S32x1_0 w))))
    (mulf y (broadcastInDim S32x1024 ![0, 1] bcast_S32x1_S32x1024_0_1 (broadcastInDim S32x1 ![0] bcast_S32_S32x1_0 w)))

/-- A truth value converted to a number. -/
theorem uitofp_decide (P : Prop) [Decidable P] :
    (FloatOps.uitofp (F := Ideal) .f32 (BitVec.ofBool (decide P)) : EReal) = if P then 1 else 0 := by
  have h1 : (FloatOps.uitofp (F := Ideal) .f32 1#1 : EReal) = 1 := by
    show (((1#1 : BitVec 1).toNat : ℝ) : EReal) = 1
    simp
  have h0 : (FloatOps.uitofp (F := Ideal) .f32 0#1 : EReal) = 0 := by
    show (((0#1 : BitVec 1).toNat : ℝ) : EReal) = 0
    simp
  by_cases h : P
  · simpa [h] using h1
  · simpa [h] using h0

/-- Dividing by one changes nothing. -/
theorem div_one (x : EReal) : Ideal.div x 1 = x := by simp [Ideal.div]

/-- A gate logit: a row times a column, and the bias. -/
theorem logits_apply (x : Vec Ideal S32x1024 .f32) (wg : Vec Ideal S1024x16 .f32) (bg : Vec Ideal S16 .f32)
    (r : Fin 32) (e : Fin 16) :
    logits x wg bg (ix2 r e) = (∑ k : Fin 1024, (x (ix2 r k) : EReal) * wg (ix2 k e)) + bg (ix1 e) := by
  unfold logits
  pointwise
  exact div_one _

/-- An exponential: of the logit less the row's greatest. -/
theorem exps_apply (l : Vec Ideal S32x16 .f32) (r : Fin 32) (e : Fin 16) :
    exps l (ix2 r e) = Ideal.exp (l (ix2 r e) - Spec.top fun k => l (ix2 r k)) := by
  have hb : Ideal.ofBits .f32 0xFF800000#32 = ⊥ := by simp [Ideal.ofBits, Ideal.ieee]
  unfold exps Spec.top
  pointwise
  rw [hb, bot_sup_eq]

/-- A gate weight: the exponential over the row's sum. -/
theorem normed_apply (y : Vec Ideal S32x16 .f32) (r : Fin 32) (e : Fin 16) :
    normed y (ix2 r e) = Ideal.div (y (ix2 r e)) (∑ k, y (ix2 r k)) := by
  unfold normed
  pointwise

/-- A hidden unit: a row times a column, the bias, and the positive part. -/
theorem hiddens_apply (x : Vec Ideal S32x1024 .f32) (w1 : Vec Ideal S16x1024x1024 .f32) (b1 : Vec Ideal S16x1024 .f32)
    (r : Fin 32) (e : Fin 16) (h : Fin 1024) :
    hiddens x w1 b1 (ix3 r e h) = max ((∑ d : Fin 1024, (x (ix2 r d) : EReal) * w1 (ix3 e d h)) + b1 (ix2 e h)) 0 := by
  unfold hiddens
  pointwise

/-- An expert's output: the hidden units times a column, and the bias. -/
theorem experts_apply (h : Vec Ideal S32x16x1024 .f32) (w2 : Vec Ideal S16x1024x1024 .f32) (b2 : Vec Ideal S16x1024 .f32)
    (r : Fin 32) (e : Fin 16) (o : Fin 1024) :
    experts h w2 b2 (ix3 r e o) = (∑ k : Fin 1024, (h (ix3 r e k) : EReal) * w2 (ix3 e k o)) + b2 (ix2 e o) := by
  unfold experts
  pointwise
  exact congrArg (· + (b2 (ix2 e o) : EReal)) (Finset.sum_congr rfl fun k _ => mul_comm _ _)

/-- The layer's output: the experts' outputs weighed by the gate. -/
theorem mixes_apply (g : Vec Ideal S32x16 .f32) (y : Vec Ideal S32x16x1024 .f32) (r : Fin 32) (o : Fin 1024) :
    mixes g y (ix2 r o) = ∑ e : Fin 16, (g (ix2 r e) : EReal) * y (ix3 r e o) := by
  unfold mixes
  pointwise

/-- A sample's halting probability. -/
theorem probs_apply (x : Vec Ideal S32x1024 .f32) (wh : Vec Ideal S1024x1 .f32) (bh : Vec Ideal S1 .f32) (r : Fin 32) :
    probs x wh bh (ix1 r)
      = Ideal.logistic ((∑ d : Fin 1024, (x (ix2 r d) : EReal) * wh (ix2 d 0)) + bh (ix1 0)) := by
  unfold probs
  pointwise
  rfl

/-- Whether a sample halts in this layer. -/
theorem halts_apply (p hp a : Vec Ideal S32 .f32) (r : Fin 32) :
    halts p hp a (ix1 r) = Spec.halted (p (ix1 r)) (hp (ix1 r)) (a (ix1 r)) := by
  unfold halts Spec.halted Spec.thr
  pointwise
  rw [uitofp_decide]

/-- The share that a halting sample lacks to the threshold. -/
theorem lacks_apply (p hp a : Vec Ideal S32 .f32) (r : Fin 32) :
    lacks p hp a (ix1 r) = Spec.lack (p (ix1 r)) (hp (ix1 r)) (a (ix1 r)) := by
  unfold lacks Spec.lack Spec.thr
  pointwise
  rw [halts_apply]

/-- The accumulated halting probability after the layer. -/
theorem hpNexts_apply (p hp a : Vec Ideal S32 .f32) (r : Fin 32) :
    hpNexts p hp a (ix1 r) = Spec.hpNext (p (ix1 r)) (hp (ix1 r)) (a (ix1 r)) := by
  unfold hpNexts Spec.hpNext
  pointwise
  rw [halts_apply, lacks_apply]

/-- The weight of the layer's output. -/
theorem weights_apply (p hp a : Vec Ideal S32 .f32) (r : Fin 32) :
    weights p hp a (ix1 r) = Spec.weight (p (ix1 r)) (hp (ix1 r)) (a (ix1 r)) := by
  unfold weights Spec.weight
  pointwise
  rw [halts_apply, lacks_apply]

/-- The remainder after the layer. -/
theorem rems_apply (p hp a rem : Vec Ideal S32 .f32) (r : Fin 32) :
    rems p hp a rem (ix1 r) = rem (ix1 r) + Spec.halted (p (ix1 r)) (hp (ix1 r)) (a (ix1 r))
      * (1 - Spec.hpNext (p (ix1 r)) (hp (ix1 r)) (a (ix1 r))) := by
  unfold rems
  pointwise
  rw [halts_apply, hpNexts_apply]

/-- Whether a sample stays active. -/
theorem actives_apply (hp : Vec Ideal S32 .f32) (r : Fin 32) :
    actives hp (ix1 r) = if hp (ix1 r) < Spec.thr then (1 : EReal) else 0 := by
  unfold actives Spec.thr
  pointwise
  rw [uitofp_decide]

/-- Mixing two outputs by a weight per sample. -/
theorem blend_apply (x y : Vec Ideal S32x1024 .f32) (w : Vec Ideal S32 .f32) (r : Fin 32) (o : Fin 1024) :
    blend x y w (ix2 r o) = (x (ix2 r o) : EReal) * (1 - w (ix1 r)) + y (ix2 r o) * w (ix1 r) := by
  unfold blend
  pointwise

end Cert.ReferenceIdeal.Layer
-- ==== Proof.RefValue.lean ====
/-
  What the reference computes, row by row: two layers of `Spec`, one after the other, and a last mixing of the output
  with itself by the remainder.
-/
module

public import proofs.«01_k».proof.Defs
public import proofs.«01_k».proof.Proof.Params
public import proofs.«01_k».proof.Proof.RefLayer
public import proofs.«01_k».proof.Proof.Gen.ReferenceIdeal.Read

@[expose] public section

set_option maxRecDepth 16384

noncomputable section

namespace Cert.ReferenceIdeal.Layer

open Cert.ReferenceIdeal Cert.ReferenceIdeal.Gen Cert.ReferenceIdeal.Read Idealize.ShloMosaic

variable (x0 : Vec Ideal S32x1024 .f32) (x1 : Vec Ideal S2x1024x16 .f32) (x2 : Vec Ideal S2x16 .f32)
  (x3 : Vec Ideal S2x16x1024x1024 .f32) (x4 : Vec Ideal S2x16x1024 .f32) (x5 : Vec Ideal S2x16x1024x1024 .f32)
  (x6 : Vec Ideal S2x16x1024 .f32) (x7 : Vec Ideal S2x1024x1 .f32) (x8 : Vec Ideal S2x1 .f32)

/-- A layer's mixed expert outputs, at a row. -/
theorem mixes_eq (L : Spec.Layer) (x : Vec Ideal S32x1024 .f32) (wg : Vec Ideal S1024x16 .f32) (bg : Vec Ideal S16 .f32)
    (w1 : Vec Ideal S16x1024x1024 .f32) (b1 : Vec Ideal S16x1024 .f32) (w2 : Vec Ideal S16x1024x1024 .f32)
    (b2 : Vec Ideal S16x1024 .f32) (hwg : ∀ k e, wg (ix2 k e) = L.wg k e) (hbg : ∀ e, bg (ix1 e) = L.bg e)
    (hw1 : ∀ e d h, w1 (ix3 e d h) = L.w1 e d h) (hb1 : ∀ e h, b1 (ix2 e h) = L.b1 e h)
    (hw2 : ∀ e h o, w2 (ix3 e h o) = L.w2 e h o) (hb2 : ∀ e o, b2 (ix2 e o) = L.b2 e o) (r : Fin 32) (o : Fin 1024) :
    mixes (normed (exps (logits x wg bg))) (experts (hiddens x w1 b1) w2 b2) (ix2 r o)
      = Spec.mix L (Spec.row x r) o := by
  simp only [mixes_apply, normed_apply, exps_apply, logits_apply, experts_apply, hiddens_apply, hwg, hbg, hw1, hb1, hw2, hb2]
  rfl

/-- A layer's halting probability, at a row. -/
theorem probs_eq (L : Spec.Layer) (x : Vec Ideal S32x1024 .f32) (wh : Vec Ideal S1024x1 .f32) (bh : Vec Ideal S1 .f32)
    (hwh : ∀ d, wh (ix2 d 0) = L.wh d) (hbh : bh (ix1 0) = L.bh) (r : Fin 32) :
    probs x wh bh (ix1 r) = Spec.prob L (Spec.row x r) := by
  simp only [probs_apply, hwh, hbh]
  rfl

/-- The arguments' parameters of layer `s`. -/
abbrev prm (s : Fin 2) : Spec.Layer := Spec.params x1 x2 x3 x4 x5 x6 x7 x8 s

/-- The first layer's mixed outputs. -/
theorem mix1 (r : Fin 32) (o : Fin 1024) : val_main_v45 x0 x1 x2 x3 x4 x5 x6 (ix2 r o)
    = Spec.mix (prm x1 x2 x3 x4 x5 x6 x7 x8 0) (Spec.row x0 r) o := by
  refine mixes_eq (prm x1 x2 x3 x4 x5 x6 x7 x8 0) x0 (val_main_v7 x1) (val_main_v9 x2) (val_main_v11 x3) (val_main_v13 x4)
    (val_main_v15 x5) (val_main_v17 x6) ?_ ?_ ?_ ?_ ?_ ?_ r o <;> intros
  · unfold val_main_v7 val_main_v6; pointwise; rfl
  · unfold val_main_v9 val_main_v8; pointwise; rfl
  · unfold val_main_v11 val_main_v10; pointwise; rfl
  · unfold val_main_v13 val_main_v12; pointwise; rfl
  · unfold val_main_v15 val_main_v14; pointwise; rfl
  · unfold val_main_v17 val_main_v16; pointwise; rfl

/-- The second layer's mixed outputs, over the first layer's output array. -/
theorem mix2 (r : Fin 32) (o : Fin 1024) : val_main_v134 x0 x1 x2 x3 x4 x5 x6 x7 x8 (ix2 r o)
    = Spec.mix (prm x1 x2 x3 x4 x5 x6 x7 x8 1) (Spec.row (val_main_v89 x0 x1 x2 x3 x4 x5 x6 x7 x8) r) o := by
  refine mixes_eq (prm x1 x2 x3 x4 x5 x6 x7 x8 1) (val_main_v89 x0 x1 x2 x3 x4 x5 x6 x7 x8) (val_main_v96 x1)
    (val_main_v98 x2) (val_main_v100 x3) (val_main_v102 x4) (val_main_v104 x5) (val_main_v106 x6) ?_ ?_ ?_ ?_ ?_ ?_ r o <;>
    intros
  · unfold val_main_v96 val_main_v95; pointwise; rfl
  · unfold val_main_v98 val_main_v97; pointwise; rfl
  · unfold val_main_v100 val_main_v99; pointwise; rfl
  · unfold val_main_v102 val_main_v101; pointwise; rfl
  · unfold val_main_v104 val_main_v103; pointwise; rfl
  · unfold val_main_v106 val_main_v105; pointwise; rfl

/-- The first layer's halting probability. -/
theorem prob1 (r : Fin 32) : val_main_v60 x0 x7 x8 (ix1 r)
    = Spec.prob (prm x1 x2 x3 x4 x5 x6 x7 x8 0) (Spec.row x0 r) := by
  refine probs_eq (prm x1 x2 x3 x4 x5 x6 x7 x8 0) x0 (val_main_v47 x7) (val_main_v50 x8) ?_ ?_ r <;> intros
  · unfold val_main_v47 val_main_v46; pointwise; rfl
  · unfold val_main_v50 val_main_v49; pointwise; rfl

/-- The second layer's halting probability. -/
theorem prob2 (r : Fin 32) : val_main_v149 x0 x1 x2 x3 x4 x5 x6 x7 x8 (ix1 r)
    = Spec.prob (prm x1 x2 x3 x4 x5 x6 x7 x8 1) (Spec.row (val_main_v89 x0 x1 x2 x3 x4 x5 x6 x7 x8) r) := by
  refine probs_eq (prm x1 x2 x3 x4 x5 x6 x7 x8 1) (val_main_v89 x0 x1 x2 x3 x4 x5 x6 x7 x8) (val_main_v136 x7)
    (val_main_v139 x8) ?_ ?_ r <;> intros
  · unfold val_main_v136 val_main_v135; pointwise; rfl
  · unfold val_main_v139 val_main_v138; pointwise; rfl

/-- A row's state after the first layer. -/
abbrev st1 (r : Fin 32) : Spec.State := Spec.after1 (prm x1 x2 x3 x4 x5 x6 x7 x8) (Spec.row x0 r)

/-- A row's state after both layers. -/
abbrev st2 (r : Fin 32) : Spec.State := Spec.after2 (prm x1 x2 x3 x4 x5 x6 x7 x8) (Spec.row x0 r)

/-- The counters before the first layer. -/
theorem zeros (r : Fin 32) : val_main_v0 (F := Ideal) (ix1 r) = (0 : EReal) ∧ val_main_v1 (F := Ideal) (ix1 r) = (0 : EReal)
    ∧ val_main_v2 (F := Ideal) (ix1 r) = (0 : EReal) ∧ val_main_v5 (F := Ideal) (ix1 r) = (0 : EReal) := by
  refine ⟨?_, ?_, ?_, ?_⟩
  · unfold val_main_v0 val_main_cst; pointwise
  · unfold val_main_v1 val_main_cst_0; pointwise
  · unfold val_main_v2 val_main_cst_1; pointwise
  · unfold val_main_v5 val_main_cst_3; pointwise

/-- Every sample is active at first. -/
theorem active1 (r : Fin 32) : val_main_v61 (F := Ideal) (ix1 r) = (1 : EReal) := by
  unfold val_main_v61 val_main_v4 val_main_c
  pointwise
  exact (uitofp_decide True).trans (if_pos trivial)

/-- The weight of the first layer's outputs. -/
theorem weight1 (r : Fin 32) : val_main_v80 x0 x7 x8 (ix1 r) = Spec.weight (Spec.prob (prm x1 x2 x3 x4 x5 x6 x7 x8 0) (Spec.row x0 r)) 0 1 := by
  refine (weights_apply (val_main_v60 x0 x7 x8) val_main_v0 val_main_v61 r).trans ?_
  rw [prob1 x0 x1 x2 x3 x4 x5 x6 x7 x8, (zeros r).1, active1]

/-- The accumulated halting probability after the first layer. -/
theorem hp1 (r : Fin 32) : val_main_v74 x0 x7 x8 (ix1 r) = (st1 x0 x1 x2 x3 x4 x5 x6 x7 x8 r).hp := by
  refine (hpNexts_apply (val_main_v60 x0 x7 x8) val_main_v0 val_main_v61 r).trans ?_
  rw [prob1 x0 x1 x2 x3 x4 x5 x6 x7 x8, (zeros r).1, active1]
  rfl

/-- The remainder after the first layer. -/
theorem rem1 (r : Fin 32) : val_main_v78 x0 x7 x8 (ix1 r) = (st1 x0 x1 x2 x3 x4 x5 x6 x7 x8 r).rem := by
  refine (rems_apply (val_main_v60 x0 x7 x8) val_main_v0 val_main_v61 val_main_v1 r).trans ?_
  rw [prob1 x0 x1 x2 x3 x4 x5 x6 x7 x8, (zeros r).1, (zeros r).2.1, active1]
  rfl

/-- The update count after the first layer. -/
theorem nupd1 (r : Fin 32) : val_main_v94 x0 x7 x8 (ix1 r) = (st1 x0 x1 x2 x3 x4 x5 x6 x7 x8 r).nupd := by
  show (val_main_v2 (F := Ideal) (ix1 r) : EReal) + val_main_v80 x0 x7 x8 (ix1 r) = _
  rw [weight1 x0 x1 x2 x3 x4 x5 x6 x7 x8, (zeros r).2.2.1]
  rfl

/-- The depth after the first layer. -/
theorem depth1 (r : Fin 32) : val_main_v91 (F := Ideal) (ix1 r) = (st1 x0 x1 x2 x3 x4 x5 x6 x7 x8 r).depth := by
  show (val_main_v5 (F := Ideal) (ix1 r) : EReal) + val_main_v61 (F := Ideal) (ix1 r) = _
  rw [active1, (zeros r).2.2.2]
  rfl

/-- Whether the sample enters the second layer active. -/
theorem act1 (r : Fin 32) : val_main_v150 x0 x7 x8 (ix1 r) = (st1 x0 x1 x2 x3 x4 x5 x6 x7 x8 r).act := by
  refine (actives_apply (val_main_v74 x0 x7 x8) r).trans ?_
  rw [hp1 x0 x1 x2 x3 x4 x5 x6 x7 x8]
  rfl

/-- The output after the first layer. -/
theorem out1 (r : Fin 32) (o : Fin 1024) :
    val_main_v89 x0 x1 x2 x3 x4 x5 x6 x7 x8 (ix2 r o) = (st1 x0 x1 x2 x3 x4 x5 x6 x7 x8 r).out o := by
  refine (blend_apply val_main_v3 (val_main_v45 x0 x1 x2 x3 x4 x5 x6) (val_main_v80 x0 x7 x8) r o).trans ?_
  have h3 : val_main_v3 (F := Ideal) (ix2 r o) = (0 : EReal) := by unfold val_main_v3 val_main_cst_2; pointwise
  rw [weight1 x0 x1 x2 x3 x4 x5 x6 x7 x8, mix1 x0 x1 x2 x3 x4 x5 x6 x7 x8, h3]
  rfl

/-- The second layer's input row. -/
theorem row1 (r : Fin 32) : Spec.row (val_main_v89 x0 x1 x2 x3 x4 x5 x6 x7 x8) r = (st1 x0 x1 x2 x3 x4 x5 x6 x7 x8 r).out :=
  funext fun o => out1 x0 x1 x2 x3 x4 x5 x6 x7 x8 r o

/-- The weight of the second layer's outputs. -/
theorem weight2 (r : Fin 32) : val_main_v169 x0 x1 x2 x3 x4 x5 x6 x7 x8 (ix1 r)
    = Spec.weight (Spec.prob (prm x1 x2 x3 x4 x5 x6 x7 x8 1) (st1 x0 x1 x2 x3 x4 x5 x6 x7 x8 r).out)
        (st1 x0 x1 x2 x3 x4 x5 x6 x7 x8 r).hp (st1 x0 x1 x2 x3 x4 x5 x6 x7 x8 r).act := by
  refine (weights_apply (val_main_v149 x0 x1 x2 x3 x4 x5 x6 x7 x8) (val_main_v74 x0 x7 x8) (val_main_v150 x0 x7 x8) r).trans ?_
  rw [prob2, row1, hp1 x0 x1 x2 x3 x4 x5 x6 x7 x8, act1 x0 x1 x2 x3 x4 x5 x6 x7 x8]

/-- The reference's remainders. -/
theorem rem2 (r : Fin 32) : val_main_v167 x0 x1 x2 x3 x4 x5 x6 x7 x8 (ix1 r) = (st2 x0 x1 x2 x3 x4 x5 x6 x7 x8 r).rem := by
  refine (rems_apply (val_main_v149 x0 x1 x2 x3 x4 x5 x6 x7 x8) (val_main_v74 x0 x7 x8) (val_main_v150 x0 x7 x8)
    (val_main_v78 x0 x7 x8) r).trans ?_
  rw [prob2, row1, hp1 x0 x1 x2 x3 x4 x5 x6 x7 x8, act1 x0 x1 x2 x3 x4 x5 x6 x7 x8, rem1 x0 x1 x2 x3 x4 x5 x6 x7 x8]
  rfl

/-- The reference's update counts. -/
theorem nupd2 (r : Fin 32) : val_main_v183 x0 x1 x2 x3 x4 x5 x6 x7 x8 (ix1 r) = (st2 x0 x1 x2 x3 x4 x5 x6 x7 x8 r).nupd := by
  show (val_main_v94 x0 x7 x8 (ix1 r) : EReal) + val_main_v169 x0 x1 x2 x3 x4 x5 x6 x7 x8 (ix1 r) = _
  rw [weight2, nupd1 x0 x1 x2 x3 x4 x5 x6 x7 x8]
  rfl

/-- The reference's depths. -/
theorem depth2 (r : Fin 32) : val_main_v180 x0 x7 x8 (ix1 r) = (st2 x0 x1 x2 x3 x4 x5 x6 x7 x8 r).depth := by
  show (val_main_v91 (F := Ideal) (ix1 r) : EReal) + val_main_v150 x0 x7 x8 (ix1 r) = _
  rw [depth1 x0 x1 x2 x3 x4 x5 x6 x7 x8, act1 x0 x1 x2 x3 x4 x5 x6 x7 x8]
  rfl

/-- The output after both layers, before the last mixing. -/
theorem out2 (r : Fin 32) (o : Fin 1024) :
    val_main_v178 x0 x1 x2 x3 x4 x5 x6 x7 x8 (ix2 r o) = (st2 x0 x1 x2 x3 x4 x5 x6 x7 x8 r).out o := by
  refine (blend_apply (val_main_v89 x0 x1 x2 x3 x4 x5 x6 x7 x8) (val_main_v134 x0 x1 x2 x3 x4 x5 x6 x7 x8)
    (val_main_v169 x0 x1 x2 x3 x4 x5 x6 x7 x8) r o).trans ?_
  rw [weight2, mix2, row1, out1]
  rfl

/-- The reference's output: the state's output mixed with itself by the remainder. -/
theorem final2 (r : Fin 32) (o : Fin 1024) :
    val_main_v192 x0 x1 x2 x3 x4 x5 x6 x7 x8 (ix2 r o)
      = (st2 x0 x1 x2 x3 x4 x5 x6 x7 x8 r).out o * (1 - (st2 x0 x1 x2 x3 x4 x5 x6 x7 x8 r).rem)
        + (st2 x0 x1 x2 x3 x4 x5 x6 x7 x8 r).out o * (st2 x0 x1 x2 x3 x4 x5 x6 x7 x8 r).rem := by
  refine (blend_apply (val_main_v178 x0 x1 x2 x3 x4 x5 x6 x7 x8) (val_main_v178 x0 x1 x2 x3 x4 x5 x6 x7 x8)
    (val_main_v167 x0 x1 x2 x3 x4 x5 x6 x7 x8) r o).trans ?_
  rw [out2, rem2]

end Cert.ReferenceIdeal.Layer
-- ==== Proof.Remainder.lean ====
/-
  The remainder lies between zero and one, so mixing the output with itself by the remainder leaves it as it is.

  A halting probability is a real number between zero and one whatever the inputs are. A sample that halts has its
  accumulated probability set to the threshold, so its remainder becomes one less the threshold; afterwards it is
  inactive and its remainder stays. Over the extended reals a product distributes over a sum of two nonnegative factors,
  whatever the output is.
-/
module

public import proofs.«01_k».proof.Proof.Spec

@[expose] public section

noncomputable section

namespace Cert.Spec

open Idealize.ShloMosaic

/-- The threshold is a real number strictly between zero and one. -/
theorem thr_real : ∃ t : ℝ, thr = (t : EReal) ∧ 0 < t ∧ t < 1 := by
  refine ⟨13421773 * (2 : ℝ) ^ (-24 : ℤ), ?_, by norm_num, by norm_num⟩
  unfold thr
  simp [Ideal.ofBits, Ideal.ieee, -EReal.coe_mul]

/-- A halting probability is a real number between zero and one. -/
theorem logistic_real (x : EReal) : ∃ p : ℝ, Ideal.logistic x = (p : EReal) ∧ 0 ≤ p ∧ p ≤ 1 := by
  induction x using EReal.rec with
  | bot => exact ⟨0, by simp, le_refl _, zero_le_one⟩
  | top => exact ⟨1, by simp, zero_le_one, le_refl _⟩
  | coe r =>
    have h : 1 ≤ 1 + Real.exp (-r) := by linarith [Real.exp_pos (-r)]
    exact ⟨(1 + Real.exp (-r))⁻¹, Ideal.logistic_coe r, inv_nonneg.mpr (by linarith), inv_le_one_of_one_le₀ h⟩

/-- What holds of a sample's state between layers: the accumulated probability is real; an inactive sample has reached
    the threshold, an active one has remainder zero; the remainder is real, between zero and one. -/
def Good (s : State) : Prop :=
  (∃ h : ℝ, s.hp = (h : EReal)) ∧ (s.act = 0 ∧ thr ≤ s.hp ∨ s.act = 1 ∧ s.rem = 0)
    ∧ ∃ q : ℝ, s.rem = (q : EReal) ∧ 0 ≤ q ∧ q ≤ 1

/-- It holds at the start. -/
theorem good_start : Good start :=
  ⟨⟨0, rfl⟩, .inr ⟨rfl, rfl⟩, 0, rfl, le_refl _, zero_le_one⟩

/-- An inactive sample keeps its accumulated probability. -/
theorem hpNext_inactive (p h : EReal) : halted p h 0 = 0 ∧ hpNext p h 0 = h := by
  have e : halted p h 0 = 0 := by simp [halted]
  refine ⟨e, ?_⟩
  simp [hpNext, lack, e]

/-- An active sample that stays below the threshold adds the layer's probability. -/
theorem hpNext_below {p h : EReal} (hlt : ¬thr ≤ h + p) : halted p h 1 = 0 ∧ hpNext p h 1 = h + p := by
  have e : halted p h 1 = 0 := by simp [halted, hlt]
  refine ⟨e, ?_⟩
  simp [hpNext, lack, e]

/-- An active sample that halts ends at the threshold. -/
theorem hpNext_halts {p h : EReal} {t r : ℝ} (ht : thr = (t : EReal)) (hr : h = (r : EReal)) (hle : thr ≤ h + p) :
    halted p h 1 = 1 ∧ hpNext p h 1 = thr := by
  have e : halted p h 1 = 1 := by simp [halted, hle]
  refine ⟨e, ?_⟩
  have e1 : (1 : EReal) - 1 = 0 := by rw [← EReal.coe_one, ← EReal.coe_sub, sub_self, EReal.coe_zero]
  rw [hpNext, lack, e, e1, mul_zero, add_zero, one_mul, ht, hr, ← EReal.coe_sub, ← EReal.coe_add, add_sub_cancel]

/-- A layer keeps it. -/
theorem good_layer (L : Layer) (x : Fin 1024 → EReal) (s : State) (hs : Good s) : Good (layer L x s) := by
  obtain ⟨⟨h, hh⟩, ha, q, hq, hq0, hq1⟩ := hs
  obtain ⟨t, ht, ht0, ht1⟩ := thr_real
  obtain ⟨p, hp, hp0, hp1⟩ := logistic_real ((∑ d, x d * L.wh d) + L.bh)
  have hp' : prob L x = (p : EReal) := hp
  unfold layer Good halt
  dsimp only
  rcases ha with ⟨ha, hge⟩ | ⟨ha, hr⟩
  · obtain ⟨e0, e1⟩ := hpNext_inactive (prob L x) s.hp
    rw [ha, e1, e0, zero_mul, add_zero, if_neg (not_lt.mpr hge)]
    exact ⟨⟨h, hh⟩, .inl ⟨rfl, hge⟩, q, hq, hq0, hq1⟩
  · by_cases hle : thr ≤ s.hp + prob L x
    · obtain ⟨e0, e1⟩ := hpNext_halts ht hh hle
      rw [ha, e1, e0, hr, if_neg (lt_irrefl _), one_mul, zero_add]
      refine ⟨⟨t, ht⟩, .inl ⟨rfl, le_refl _⟩, 1 - t, ?_, by linarith, by linarith⟩
      rw [ht, EReal.coe_sub, EReal.coe_one]
    · obtain ⟨e0, e1⟩ := hpNext_below hle
      rw [ha, e1, e0, hr, if_pos (not_le.mp hle), zero_mul, zero_add]
      exact ⟨⟨h + p, by rw [hh, hp', EReal.coe_add]⟩, .inr ⟨rfl, rfl⟩, 0, rfl, le_refl _, zero_le_one⟩

/-- Mixing a value with itself by a remainder of a good state leaves it. -/
theorem mix_self (s : State) (hs : Good s) (y : EReal) : y * (1 - s.rem) + y * s.rem = y := by
  obtain ⟨-, -, q, hq, hq0, hq1⟩ := hs
  have e : (1 : EReal) - (q : EReal) = ((1 - q : ℝ) : EReal) := by rw [EReal.coe_sub, EReal.coe_one]
  rw [hq, e, ← EReal.left_distrib_of_nonneg (EReal.coe_nonneg.mpr (by linarith)) (EReal.coe_nonneg.mpr hq0),
    ← EReal.coe_add, sub_add_cancel, EReal.coe_one, mul_one]

/-- The state after both layers is good. -/
theorem good_after2 (L : Fin 2 → Layer) (x : Fin 1024 → EReal) : Good (after2 L x) :=
  good_layer _ _ _ (good_layer _ _ _ good_start)

end Cert.Spec
-- ==== Proof.Agree.lean ====
/-
  The kernel's results and the reference's are the same extended reals.

  Both are read row by row against the state that `Spec` gives after the two layers.
-/
module

public import proofs.«01_k».proof.Proof.KernelRun
public import proofs.«01_k».proof.Proof.RefValue
public import proofs.«01_k».proof.Proof.Remainder

@[expose] public section

set_option maxRecDepth 16384

noncomputable section

namespace Cert.KernelIdeal.Value

open Cert.KernelIdeal Cert.KernelIdeal.Gen Cert.KernelIdeal.Step
open Cert.ReferenceIdeal.Read Cert.ReferenceIdeal.Layer
open Idealize.ShloMosaic Idealize.ShloMosaic.TcCoe

variable (m : (ℓ : Loc nD τ sig) → Buf (Elt Ideal) ℓ) (c : Dev nD) (t : Fin cfg0.N) (ht : t = last)

include ht

/-- `at_last` at a point known to be the last. -/
theorem at_end (r : Fin 32) : At m c (Spec.after2 (prm m c) (sample m c r)) t r := by
  subst ht
  exact at_last m c r

/-- The mixed output: the reference mixes it with itself by the remainder, which changes nothing. -/
theorem out_eq : out m c t = val_main_v192 (F := Ideal) (m ((c : Thread nD τ).loc main_arg0)) (m ((c : Thread nD τ).loc main_arg1)) (m
      ((c : Thread nD τ).loc main_arg2)) (m ((c : Thread nD τ).loc main_arg3)) (m ((c : Thread nD τ).loc
      main_arg4)) (m ((c : Thread nD τ).loc main_arg5)) (m ((c : Thread nD τ).loc main_arg6)) (m ((c : Thread nD
      τ).loc main_arg7)) (m ((c : Thread nD τ).loc main_arg8)) := by
  funext i
  obtain ⟨r, o, rfl⟩ : ∃ (r : Fin 32) (o : Fin 1024), i = ix2 r o := ⟨_, _, eq_ix2 i⟩
  rw [(at_end m c t ht r).out o, final2 _ _ _ _ _ _ _ _ _ r o]
  exact (Spec.mix_self _ (Spec.good_after2 _ _) _).symm

/-- The update counts. -/
theorem nupd_eq : shapeCast S32 (nupd m c t) shapeCasts_S32x1_S32 = val_main_v183 (F := Ideal) (m ((c : Thread nD τ).loc main_arg0)) (m ((c : Thread nD τ).loc main_arg1)) (m
      ((c : Thread nD τ).loc main_arg2)) (m ((c : Thread nD τ).loc main_arg3)) (m ((c : Thread nD τ).loc
      main_arg4)) (m ((c : Thread nD τ).loc main_arg5)) (m ((c : Thread nD τ).loc main_arg6)) (m ((c : Thread nD
      τ).loc main_arg7)) (m ((c : Thread nD τ).loc main_arg8)) := by
  funext i
  obtain ⟨r, rfl⟩ : ∃ r : Fin 32, i = ix1 r := ⟨_, eq_ix1 i⟩
  rw [drop_apply, (at_end m c t ht r).nupd]
  exact (nupd2 (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c :
      Thread nD τ).loc main_arg8)) r).symm

/-- The remainders. -/
theorem rem_eq : shapeCast S32 (rem m c t) shapeCasts_S32x1_S32 = val_main_v167 (F := Ideal) (m ((c : Thread nD τ).loc main_arg0)) (m ((c : Thread nD τ).loc main_arg1)) (m
      ((c : Thread nD τ).loc main_arg2)) (m ((c : Thread nD τ).loc main_arg3)) (m ((c : Thread nD τ).loc
      main_arg4)) (m ((c : Thread nD τ).loc main_arg5)) (m ((c : Thread nD τ).loc main_arg6)) (m ((c : Thread nD
      τ).loc main_arg7)) (m ((c : Thread nD τ).loc main_arg8)) := by
  funext i
  obtain ⟨r, rfl⟩ : ∃ r : Fin 32, i = ix1 r := ⟨_, eq_ix1 i⟩
  rw [drop_apply, (at_end m c t ht r).rem]
  exact (rem2 (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c :
      Thread nD τ).loc main_arg8)) r).symm

/-- The layer counts. -/
theorem depth_eq : shapeCast S32 (depth m c t) shapeCasts_S32x1_S32 = val_main_v180 (F := Ideal) (m ((c : Thread nD τ).loc main_arg0)) (m ((c : Thread nD τ).loc main_arg7)) (m
      ((c : Thread nD τ).loc main_arg8)) := by
  funext i
  obtain ⟨r, rfl⟩ : ∃ r : Fin 32, i = ix1 r := ⟨_, eq_ix1 i⟩
  rw [drop_apply, (at_end m c t ht r).depth]
  exact (depth2 (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c :
      Thread nD τ).loc main_arg8)) r).symm

end Cert.KernelIdeal.Value
-- ==== Proof.lean ====
/-
  The proof of `Cert.Claim`: the frames of the kernel and of both idealized programs, and that the idealized kernel's
  four results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem

/-- From memories agreeing on the arguments, the kernel and the reference end with equal results. -/
theorem agree : Cert.algebraic_KernelIdeal_ReferenceIdeal
    (hKernelIdeal := Cert.KernelIdeal.Gen.facts) (hReferenceIdeal := Cert.ReferenceIdeal.Gen.facts) := by
  intro m g m' g' _ hm
  obtain ⟨t, ht⟩ : ∃ t, t = Cert.KernelIdeal.Value.last := ⟨_, rfl⟩
  refine ⟨_, _, _, _, Cert.KernelIdeal.Value.run m t ht g,
    (θ_run Cert.ReferenceIdeal.defs _ _).mono (fun r h c => ?_) (Cert.ReferenceIdeal.Value.run m' g')⟩
  obtain ⟨h0, h1, h2, h3, hargs⟩ := h c
  obtain ⟨a0, a1, a2, a3, a4, a5, a6, a7, a8⟩ := hm c
  refine ⟨h0.trans ?_, h1.trans ?_, h2.trans ?_, h3.trans ?_, hargs⟩
  · rw [Cert.KernelIdeal.Value.out_eq m c t ht, ← a0, ← a1, ← a2, ← a3, ← a4, ← a5, ← a6, ← a7, ← a8]
    exact Cert.ReferenceIdeal.Read.val_main_v192_eq (StableHlo.launchContents m' c)
  · rw [Cert.KernelIdeal.Value.nupd_eq m c t ht, ← a0, ← a1, ← a2, ← a3, ← a4, ← a5, ← a6, ← a7, ← a8]
    exact Cert.ReferenceIdeal.Read.val_main_v183_eq (StableHlo.launchContents m' c)
  · rw [Cert.KernelIdeal.Value.rem_eq m c t ht, ← a0, ← a1, ← a2, ← a3, ← a4, ← a5, ← a6, ← a7, ← a8]
    exact Cert.ReferenceIdeal.Read.val_main_v167_eq (StableHlo.launchContents m' c)
  · rw [Cert.KernelIdeal.Value.depth_eq m c t ht, ← a0, ← a7, ← a8]
    exact Cert.ReferenceIdeal.Read.val_main_v180_eq (StableHlo.launchContents m' c)

/-- The reference is a straight-line host program that declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run m ρ)

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    reference_frame, trivial, agree⟩

end Cert.Proof

end
